-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨3, ![2, 4096, 512]⟩ ⟨3, ![2, 4096, 8192]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 8192]⟩ 1 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 4096, 512]⟩ ⟨3, ![2, 4096, 8192]⟩ 2 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2x4096x512 : Shape := ⟨3, ![2, 4096, 512]⟩
abbrev S2x128 : Shape := ⟨2, ![2, 128]⟩
abbrev S128x512 : Shape := ⟨2, ![128, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel

variable [Facts]

def fn {F : FTy → Type} [FloatOps F] (main_arg0 : FVec F S2x4096x512 .f32) (main_arg1 : FVec F S2x128 .f32) (main_arg2 : FVec F S128x512 .f32) (main_arg3 : FVec F S128x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  main_v3
-- ==== Pre_finite_x_ReferenceIdeal.lean ====
abbrev S2x4096x8192 : Shape := ⟨3, ![2, 4096, 8192]⟩
abbrev S2x128 : Shape := ⟨2, ![2, 128]⟩
abbrev S128x8192 : Shape := ⟨2, ![128, 8192]⟩
abbrev S_ : Shape := ⟨0, ![]⟩

class Facts : Prop where
  bcast_S_S2x4096x8192 : S_.BroadcastsInDim S2x4096x8192 (![] : Fin 0 → Fin S2x4096x8192.rank)
  reducesTo_S2x4096x8192_S_d0_1_2 : S2x4096x8192.ReducesTo [0, 1, 2] S_
  h_S_ : 0 < S_.numel

variable [Facts]

def fn {F : FTy → Type} [FloatOps F] (main_arg0 : FVec F S2x4096x8192 .f32) (main_arg1 : FVec F S2x128 .f32) (main_arg2 : FVec F S128x8192 .f32) (main_arg3 : FVec F S128x8192 .f32) : IVec S_ 1 :=
  let main_v0 : FVec F S2x4096x8192 .f32 := Host.absf main_arg0
  let main_cst : FVec F S_ .f32 := constant S_ .f32 0x7F800000#32
  let main_v1 : FVec F S2x4096x8192 .f32 := broadcastInDim S2x4096x8192 ![] bcast_S_S2x4096x8192 main_cst
  let main_v2 : IVec S2x4096x8192 1 := cmpf .olt main_v0 main_v1
  let main_c : IVec S_ 1 := constantI S_ 1 1#1
  let main_v3 : IVec S_ 1 := (fun x v => Host.reduce IntOp.andi x v reducesTo_S2x4096x8192_S_d0_1_2 h_S_) main_v2 main_c
  main_v3
-- ==== Kernel.lean ====
abbrev S2x4096x512 : Shape := ⟨3, ![2, 4096, 512]⟩
abbrev S2x128 : Shape := ⟨2, ![2, 128]⟩
abbrev S128x512 : Shape := ⟨2, ![128, 512]⟩
abbrev S128x128 : Shape := ⟨2, ![128, 128]⟩
abbrev S2x3x128x128 : Shape := ⟨4, ![2, 3, 128, 128]⟩
abbrev S2x3 : Shape := ⟨2, ![2, 3]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S8192x2 : Shape := ⟨2, ![8192, 2]⟩
abbrev S2x8192 : Shape := ⟨2, ![2, 8192]⟩
abbrev S1x1 : Shape := ⟨2, ![1, 1]⟩
abbrev S1x1x128x128 : Shape := ⟨4, ![1, 1, 128, 128]⟩
abbrev S2x512 : Shape := ⟨2, ![2, 512]⟩
abbrev S4096x1 : Shape := ⟨2, ![4096, 1]⟩
abbrev S1x512 : Shape := ⟨2, ![1, 512]⟩
abbrev S1x4096x512 : Shape := ⟨3, ![1, 4096, 512]⟩
abbrev S4096x512 : Shape := ⟨2, ![4096, 512]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x512, .f32⟩
  | .hbm, ⟨1, _⟩ => ⟨S2x128, .f32⟩
  | .hbm, ⟨2, _⟩ => ⟨S128x512, .f32⟩
  | .hbm, ⟨3, _⟩ => ⟨S128x512, .f32⟩
  | .hbm, ⟨4, _⟩ => ⟨S2x4096x512, .bf16⟩
  | .local _ .vmem, ⟨0, _⟩ => ⟨S2x4096x512, .f32⟩
  | .local _ .vmem, ⟨1, _⟩ => ⟨S2x128, .f32⟩
  | .local _ .vmem, ⟨2, _⟩ => ⟨S128x512, .f32⟩
  | .local _ .vmem, ⟨3, _⟩ => ⟨S128x512, .f32⟩
  | .local _ .vmem, ⟨4, _⟩ => ⟨S2x4096x512, .bf16⟩
  | .local _ .vmem, ⟨5, _⟩ => ⟨S128x128, .f32⟩
  | .local _ .vmem, ⟨6, _⟩ => ⟨S2x3x128x128, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v19 : BitVec 32 := Scalar.xori v2 c12_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_23 : BitVec 32 := 1#32
  let v36 : BitVec 32 := Scalar.xori v2 c1_i32_23
  let c1_i32_30 : BitVec 32 := 1#32
  let v37 : BitVec 32 := Scalar.muli v36 c1_i32_30
  let v38 : BitVec 32 := Scalar.addi c0_i32_31 v37
  v38.toNat
def k0_dev8 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v45 : BitVec 32 := Scalar.xori v2 c2_i32_34
  let c1_i32_41 : BitVec 32 := 1#32
  let v46 : BitVec 32 := Scalar.muli v45 c1_i32_41
  let v47 : BitVec 32 := Scalar.addi c0_i32_42 v46
  v47.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_45 : BitVec 32 := 3#32
  let v54 : BitVec 32 := Scalar.xori v2 c3_i32_45
  let c1_i32_52 : BitVec 32 := 1#32
  let v55 : BitVec 32 := Scalar.muli v54 c1_i32_52
  let v56 : BitVec 32 := Scalar.addi c0_i32_53 v55
  v56.toNat
def k0_dev10 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_137 : BitVec 32 := 4#32
  let v116 : BitVec 32 := Scalar.xori v2 c4_i32_137
  let c1_i32_144 : BitVec 32 := 1#32
  let v117 : BitVec 32 := Scalar.muli v116 c1_i32_144
  let v118 : BitVec 32 := Scalar.addi c0_i32_145 v117
  v118.toNat
def k0_dev11 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_148 : BitVec 32 := 8#32
  let v125 : BitVec 32 := Scalar.xori v2 c8_i32_148
  let c1_i32_155 : BitVec 32 := 1#32
  let v126 : BitVec 32 := Scalar.muli v125 c1_i32_155
  let v127 : BitVec 32 := Scalar.addi c0_i32_156 v126
  v127.toNat
def k0_dev12 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_159 : BitVec 32 := 12#32
  let v134 : BitVec 32 := Scalar.xori v2 c12_i32_159
  let c1_i32_166 : BitVec 32 := 1#32
  let v135 : BitVec 32 := Scalar.muli v134 c1_i32_166
  let v136 : BitVec 32 := Scalar.addi c0_i32_167 v135
  v136.toNat
abbrev stage0_0 : Fin 1 → Memref sig .tc .vmem S2x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x4096x8192 : Shape := ⟨3, ![2, 4096, 8192]⟩
abbrev S2x128 : Shape := ⟨2, ![2, 128]⟩
abbrev S128x8192 : Shape := ⟨2, ![128, 8192]⟩
abbrev S_ : Shape := ⟨0, ![]⟩
abbrev S2x4096 : Shape := ⟨2, ![2, 4096]⟩
abbrev S2x4096x1 : Shape := ⟨3, ![2, 4096, 1]⟩
abbrev S2x8192 : Shape := ⟨2, ![2, 8192]⟩
abbrev S2x1x8192 : Shape := ⟨3, ![2, 1, 8192]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x8192, .f32⟩
  | .hbm, ⟨1, _⟩ => ⟨S2x128, .f32⟩
  | .hbm, ⟨2, _⟩ => ⟨S128x8192, .f32⟩
  | .hbm, ⟨3, _⟩ => ⟨S128x8192, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .i32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x8192, .f32⟩
  | .hbm, ⟨18, _⟩ => ⟨S2x4096x8192, .f32⟩
  | .hbm, ⟨19, _⟩ => ⟨S2x4096x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x8192, .f32⟩
  | .hbm, ⟨35, _⟩ => ⟨S2x4096x8192, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x8192, .f32⟩
  | .hbm, ⟨41, _⟩ => ⟨S2x4096x8192, .f32⟩
  | .hbm, ⟨42, _⟩ => ⟨S2x8192, .f32⟩
  | .hbm, ⟨43, _⟩ => ⟨S2x8192, .f32⟩
  | .hbm, ⟨44, _⟩ => ⟨S2x1x8192, .f32⟩
  | .hbm, ⟨45, _⟩ => ⟨S_, .f32⟩
  | .hbm, ⟨46, _⟩ => ⟨S2x1x8192, .f32⟩
  | .hbm, ⟨47, _⟩ => ⟨S2x1x8192, .f32⟩
  | .hbm, ⟨48, _⟩ => ⟨S2x4096x8192, .f32⟩
  | .hbm, ⟨49, _⟩ => ⟨S2x4096x8192, .f32⟩
  | .hbm, ⟨50, _⟩ => ⟨S2x1x8192, .f32⟩
  | .hbm, ⟨51, _⟩ => ⟨S2x4096x8192, .f32⟩
  | .hbm, ⟨52, _⟩ => ⟨S2x4096x8192, .f32⟩
  | .hbm, ⟨53, _⟩ => ⟨S2x4096x8192, .bf16⟩
  | _, _ => ⟨S2x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]
-- ==== Proof.KernelIdeal.Plan.lean ====
/-
# The exchange plan

Sixteen devices run the kernel. Device `c` has six partners, `c xor 1, 2, 3` (first round) and `c xor 4, 8, 12`
(second round). Every device has one barrier cell and, for each partner `k`, one send cell and one receive cell.

* Barrier cell of `c`: partner `k` signals one unit and hands over its own receive slot `k` (any contents), together
  with the fact that its receive cell `k` is in its first round. `c` waits for all six units.
* Receive cell `k` of `c`: partner `k`'s copy lands in slot `k`; the landing hands over the slot holding that
  partner's block of sums (first-round sums for `k < 3`, group sums for `3 ≤ k`).
* Send cell `k` of `c`: `c`'s own copy to partner `k`; its completion hands back the share of the accumulator the
  copy was reading, with unchanged contents.

Each cell has a single round. Waits are ordered by level: staging and send cells 0, barrier cells 1, receive cells of
the first round 2, of the second round 3.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.Ring
public import Idealize.ShloMosaic.Lib.ValueIdx

@[expose] public section

noncomputable section

namespace Cert.KernelIdeal.Stats

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the staging copies' rounds and the exchange's rounds (duties named by the partner) -/

abbrev UX : Type := URounds (GSem nD τ sig) (Fin 6)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The launch memory: given contents, all counters zero. -/
def start₀ : MemSt nD τ sig (Elt F) := ⟨m, fun _ => 0, ρ⟩

/-! ## Partners -/

/-- The six distances. -/
def dist : Fin 6 → ℕ := ![1, 2, 3, 4, 8, 12]

set_option backward.proofsInPublic true in
/-- Partner `k` of device `c`. -/
def peer (k : Fin 6) (c : Dev nD) : Dev nD := ⟨(c.val ^^^ dist k) % 16, Nat.mod_lt _ (by decide)⟩

/-- Being partner `k` is mutual. -/
theorem peer_peer (k : Fin 6) (c : Dev nD) : peer k (peer k c) = c := by revert k c; decide

/-- The pairing as a bijection of the devices. -/
def pairing (k : Fin 6) : Dev nD ≃ Dev nD := ⟨peer k, peer k, peer_peer k, peer_peer k⟩

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 3 c := by revert c; decide
theorem dev5_eq (c : Dev nD) : (⟨k0_dev5 c, k0_dev5_lt c⟩ : Dev nD) = peer 4 c := by revert c; decide
theorem dev6_eq (c : Dev nD) : (⟨k0_dev6 c, k0_dev6_lt c⟩ : Dev nD) = peer 5 c := by revert c; decide
theorem dev7_eq (c : Dev nD) : (⟨k0_dev7 c, k0_dev7_lt c⟩ : Dev nD) = peer 0 c := by revert c; decide
theorem dev8_eq (c : Dev nD) : (⟨k0_dev8 c, k0_dev8_lt c⟩ : Dev nD) = peer 1 c := by revert c; decide
theorem dev9_eq (c : Dev nD) : (⟨k0_dev9 c, k0_dev9_lt c⟩ : Dev nD) = peer 2 c := by revert c; decide
theorem dev10_eq (c : Dev nD) : (⟨k0_dev10 c, k0_dev10_lt c⟩ : Dev nD) = peer 3 c := by revert c; decide
theorem dev11_eq (c : Dev nD) : (⟨k0_dev11 c, k0_dev11_lt c⟩ : Dev nD) = peer 4 c := by revert c; decide
theorem dev12_eq (c : Dev nD) : (⟨k0_dev12 c, k0_dev12_lt c⟩ : Dev nD) = peer 5 c := by revert c; decide

/-! ## Buffers and cells -/

abbrev xM : Memref sig .tc .vmem S2x4096x512 .f32 := Memref.whole cc0_stg0_0
abbrev tM : Memref sig .tc .vmem S2x128 .f32 := Memref.whole cc0_stg1_0
abbrev aM : Memref sig .tc .vmem S128x512 .f32 := Memref.whole cc0_stg2_0
abbrev bM : Memref sig .tc .vmem S128x512 .f32 := Memref.whole cc0_stg3_0
abbrev oM : Memref sig .tc .vmem S2x4096x512 .bf16 := Memref.whole cc0_stg4_0
abbrev sumM : Memref sig .tc .vmem S128x128 .f32 := Memref.whole cc0_scratch0
abbrev rcvM : Memref sig .tc .vmem S2x3x128x128 .f32 := Memref.whole cc0_scratch1

theorem slot_inb (k : Fin 6) : ∀ a : Fin 4, (![k.val / 3, k.val % 3, 0, 0] : Fin 4 → ℕ) a + S1x1x128x128.size a ≤ S2x3x128x128.size a := by
  revert k; decide

/-- The rectangle of slot `k` of the receive buffer. -/
abbrev slotR (k : Fin 6) : Rect S2x3x128x128 :=
  Rect.unit (s := S2x3x128x128) ![k.val / 3, k.val % 3, 0, 0] S1x1x128x128.size (slot_inb k)

/-- Slot `k` of the receive buffer as a 128 × 128 block. -/
abbrev slotM (k : Fin 6) : Memref sig .tc .vmem S128x128 .f32 :=
  (rcvM.slice (slotR k) (fun _ => rfl)).squeeze S128x128 squeezes_S1x1x128x128_S128x128

abbrev barS : Sem sig := (SemArray.scalar (sig.barrier 0 rfl) : Sems sig S_).sem
set_option backward.proofsInPublic true in
/-- The send semaphore of partner `k`. -/
def sendS (k : Fin 6) : DmaSem sig := ⟨5 + k.val, by have := k.isLt; show 5 + k.val < 17; omega⟩
set_option backward.proofsInPublic true in
/-- The receive semaphore of partner `k`. -/
def recvS (k : Fin 6) : DmaSem sig := ⟨11 + k.val, by have := k.isLt; show 11 + k.val < 17; omega⟩

abbrev barCell (c : Dev nD) : GSem nD τ sig := ((c : Thread nD τ), .reg barS)
abbrev sendCell (c : Dev nD) (k : Fin 6) : GSem nD τ sig := ((c : Thread nD τ), .dma (sendS k))
abbrev recvCell (c : Dev nD) (k : Fin 6) : GSem nD τ sig := ((c : Thread nD τ), .dma (recvS k))

/-- What a semaphore is for: a receive semaphore (`true`) or a send semaphore (`false`) of a partner, or neither. -/
def role (q : DmaSem sig) : Option (Bool × Fin 6) :=
  if h : 11 ≤ q.val then some (true, ⟨q.val - 11, by have : q.val < 17 := q.isLt; omega⟩)
  else if h' : 5 ≤ q.val then some (false, ⟨q.val - 5, by omega⟩) else none

theorem role_send (k : Fin 6) : role (sendS k) = some (false, k) := by revert k; decide
theorem role_recv (k : Fin 6) : role (recvS k) = some (true, k) := by revert k; decide

/-- The credit of one 128 × 128 block. -/
abbrev N : ℕ := (slotM 0).view.dmaCredit
theorem N_pos : 0 < N := View.dmaCredit_pos _ (by decide)

/-! ## Contents -/

/-- The staged blocks of the four arguments. -/
def xin (c : Dev nD) : (cc0_stg0_0 : Ref sig .tc).ty.Contents (Elt F) :=
  (win0_0.blk (0 : Fin 1)).view.read (Elt F) (m ((c : Thread nD τ).loc main_arg0))
def tin (c : Dev nD) : (cc0_stg1_0 : Ref sig .tc).ty.Contents (Elt F) :=
  (win0_1.blk (0 : Fin 1)).view.read (Elt F) (m ((c : Thread nD τ).loc main_arg1))
def ain (c : Dev nD) : (cc0_stg2_0 : Ref sig .tc).ty.Contents (Elt F) :=
  (win0_2.blk (0 : Fin 1)).view.read (Elt F) (m ((c : Thread nD τ).loc main_arg2))
def bin (c : Dev nD) : (cc0_stg3_0 : Ref sig .tc).ty.Contents (Elt F) :=
  (win0_3.blk (0 : Fin 1)).view.read (Elt F) (m ((c : Thread nD τ).loc main_arg3))

/-- Four blocks added up from the left. -/
def add4 (u v w z : FVec F S128x128 .f32) : FVec F S128x128 .f32 := addf (addf (addf u v) w) z

/-- A device's own sums; -/
def sum0 (c : Dev nD) : FVec F S128x128 .f32 := k0_pay3 (k0_pay2 (xin m c))
/-- those of its group of four; -/
def sum1 (c : Dev nD) : FVec F S128x128 .f32 := add4 (sum0 m c) (sum0 m (peer 0 c)) (sum0 m (peer 1 c)) (sum0 m (peer 2 c))
/-- those of all sixteen devices. -/
def sum2 (c : Dev nD) : FVec F S128x128 .f32 := add4 (sum1 m c) (sum1 m (peer 3 c)) (sum1 m (peer 4 c)) (sum1 m (peer 5 c))

/-- What device `c` copies to partner `k`. -/
def sent (k : Fin 6) (c : Dev nD) : FVec F S128x128 .f32 := if k.val < 3 then sum0 m c else sum1 m c

set_option backward.proofsInPublic true in
/-- The receive buffer when all six copies have landed: slot `k` holds partner `k`'s block. -/
def landed (c : Dev nD) : (cc0_scratch1 : Ref sig .tc).ty.Contents (Elt F) := fun (i : S2x3x128x128.Idx) =>
  sent m ⟨3 * (i 0).val + (i 1).val, by have h0 : (i 0).val < 2 := (i 0).isLt; have h1 : (i 1).val < 3 := (i 1).isLt; omega⟩
    (peer ⟨3 * (i 0).val + (i 1).val, by have h0 : (i 0).val < 2 := (i 0).isLt; have h1 : (i 1).val < 3 := (i 1).isLt; omega⟩ c)
    (ValueIdx.ix2 (i 2) (i 3))

/-- A block position as a position of the one-slot rectangle. -/
theorem slot_reshape (x : S128x128.Idx) :
    Shape.reshapeEquiv (s := S1x1x128x128) (s' := S128x128) (Shape.Squeezes.numel_eq squeezes_S1x1x128x128_S128x128) x
      = (ValueIdx.ix4 (0 : Fin 1) (0 : Fin 1) (x 0 : Fin 128) (x 1 : Fin 128) : (⟨4, ![1, 1, 128, 128]⟩ : Shape).Idx) := by
  apply Shape.reshapeEquiv_eq_of_rowMajor
  refine (Shape.rowMajor_val_four (d := ![1, 1, 128, 128]) _).trans ((?_ : _ = _).trans (Shape.rowMajor_val_two (d := ![128, 128]) x).symm)
  show ((0 * 1 + 0) * 128 + (x 0).val) * 128 + (x 1).val = (x 0).val * 128 + (x 1).val
  omega

theorem slot_emb (k : Fin 6) (x : S128x128.Idx) :
    (slotM k).view.emb x = (slotR k).emb (ValueIdx.ix4 (0 : Fin 1) (0 : Fin 1) (x 0 : Fin 128) (x 1 : Fin 128) : (⟨4, ![1, 1, 128, 128]⟩ : Shape).Idx) :=
  congrArg (slotR k).emb (slot_reshape x)

/-- Reading slot `k` of the landed buffer gives partner `k`'s block. -/
theorem read_slot (k : Fin 6) (c : Dev nD) :
    (slotM k).view.read (Elt F) (landed m c) = sent m k (peer k c) := by
  funext x
  show landed m c ((slotM k).view.emb x) = _
  rw [slot_emb]
  unfold landed
  have e0 : ((slotR k).emb (ValueIdx.ix4 (0 : Fin 1) (0 : Fin 1) (x 0 : Fin 128) (x 1 : Fin 128) : (⟨4, ![1, 1, 128, 128]⟩ : Shape).Idx) 0).val = k.val / 3 := by
    show k.val / 3 + 1 * 0 = _; omega
  have e1 : ((slotR k).emb (ValueIdx.ix4 (0 : Fin 1) (0 : Fin 1) (x 0 : Fin 128) (x 1 : Fin 128) : (⟨4, ![1, 1, 128, 128]⟩ : Shape).Idx) 1).val = k.val % 3 := by
    show k.val % 3 + 1 * 0 = _; omega
  have hk : ∀ h, (⟨3 * ((slotR k).emb (ValueIdx.ix4 (0 : Fin 1) (0 : Fin 1) (x 0 : Fin 128) (x 1 : Fin 128) : (⟨4, ![1, 1, 128, 128]⟩ : Shape).Idx) 0).val
      + ((slotR k).emb (ValueIdx.ix4 (0 : Fin 1) (0 : Fin 1) (x 0 : Fin 128) (x 1 : Fin 128) : (⟨4, ![1, 1, 128, 128]⟩ : Shape).Idx) 1).val, h⟩ : Fin 6) = k :=
    fun h => Fin.ext (by simp only [e0, e1]; omega)
  rw [hk]
  refine congrArg (sent m k (peer k c)) (funext fun a => ?_)
  fin_cases a
  · exact Fin.ext (by show 0 + 1 * (x 0).val = (x 0).val; omega)
  · exact Fin.ext (by show 0 + 1 * (x 1).val = (x 1).val; omega)

/-- A block copied into slot `k` leaves, on that slot, what the landed buffer holds there. -/
theorem write_slot (k : Fin 6) (c : Dev nD) (fd : (cc0_scratch1 : Ref sig .tc).ty.Contents (Elt F))
    (i) (hi : i ∈ (slotM k).view.set) :
    (slotM k).view.write (Elt F) fd (sent m k (peer k c)) Finset.univ i = landed m c i := by
  rw [← read_slot m k c, View.write_read_eq_piecewise]
  exact Finset.piecewise_eq_of_mem _ _ _ hi

/-- The positions of slot `k`. -/
def slotI (k : Fin 6) : Finset (cc0_scratch1 : Ref sig .tc).ty.Idx := (slotM k).view.set

omit [FloatOps F] in
theorem slot_set (k : Fin 6) : slotI k = (slotR k).set := by
  unfold slotI
  rw [show (slotM k).view.set = (rcvM.view.slice (slotR k)).set from View.set_reshape _ _, View.set_slice_whole]

omit [FloatOps F] in
theorem mem_slot (k : Fin 6) (i : S2x3x128x128.Idx) : i ∈ slotI k ↔ (i 0).val = k.val / 3 ∧ (i 1).val = k.val % 3 := by
  rw [slot_set, Rect.mem_set_unit]
  have h2 : (i 2).val < 128 := (i 2).isLt
  have h3 : (i 3).val < 128 := (i 3).isLt
  constructor
  · intro h
    have a0 : k.val / 3 ≤ (i 0).val ∧ (i 0).val < k.val / 3 + 1 := h 0
    have a1 : k.val % 3 ≤ (i 1).val ∧ (i 1).val < k.val % 3 + 1 := h 1
    omega
  · rintro ⟨a0, a1⟩ a
    fin_cases a
    · show k.val / 3 ≤ (i 0).val ∧ (i 0).val < k.val / 3 + 1; omega
    · show k.val % 3 ≤ (i 1).val ∧ (i 1).val < k.val % 3 + 1; omega
    · show 0 ≤ (i 2).val ∧ (i 2).val < 0 + 128; omega
    · show 0 ≤ (i 3).val ∧ (i 3).val < 0 + 128; omega

omit [FloatOps F] in
theorem slot_disjoint : ∀ k k' : Fin 6, k ≠ k' → Disjoint (slotI k) (slotI k') := fun k k' h =>
  Finset.disjoint_left.2 fun i hi hi' => h (by
    have a := (mem_slot k i).1 hi
    have b := (mem_slot k' i).1 hi'
    exact Fin.ext (by omega))

omit [FloatOps F] in
theorem slot_cover : Finset.univ.biUnion slotI = Finset.univ := by
  ext i
  simp only [Finset.mem_biUnion, Finset.mem_univ, true_and, iff_true]
  have h0 : ((i : S2x3x128x128.Idx) 0).val < 2 := ((i : S2x3x128x128.Idx) 0).isLt
  have h1 : ((i : S2x3x128x128.Idx) 1).val < 3 := ((i : S2x3x128x128.Idx) 1).isLt
  exact ⟨⟨3 * ((i : S2x3x128x128.Idx) 0).val + ((i : S2x3x128x128.Idx) 1).val, by omega⟩, (mem_slot _ i).2 ⟨by simp only; omega, by simp only; omega⟩⟩

/-! ## Points-to facts -/

/-- Slot `k` of device `c`'s receive buffer. -/
def slotPts (c : Dev nD) (k : Fin 6) (f : (cc0_scratch1 : Ref sig .tc).ty.Contents (Elt F)) : sProp 𝕄 :=
  (slotM k).view.loc (c : Thread nD τ) ↦[(slotM k).view.set]{fullShare} f
/-- A share of device `c`'s accumulator. -/
def sumPts (q : PosShare TreeShare) (c : Dev nD) (f : (cc0_scratch0 : Ref sig .tc).ty.Contents (Elt F)) : sProp 𝕄 :=
  (sumM : Memref sig .tc .vmem S128x128 .f32).view.loc (c : Thread nD τ) ↦[(sumM : Memref sig .tc .vmem S128x128 .f32).view.set]{q} f

omit [FloatOps F] in
instance slotPts_storable (c : Dev nD) (k f) : BI.Storable (upEmb : UEmb _ 𝕄) (slotPts (F := F) c k f) := by unfold slotPts; infer_instance
omit [FloatOps F] in
instance sumPts_storable (q) (c : Dev nD) (f) : BI.Storable (upEmb : UEmb _ 𝕄) (sumPts (F := F) q c f) := by unfold sumPts; infer_instance

omit [FloatOps F] in
theorem sumPts_eq (q) (c : Dev nD) (f : Buf (Elt F) ((c : Thread nD τ).loc cc0_scratch0)) :
    sumPts q c f = (((c : Thread nD τ).loc cc0_scratch0) ↦{q} f : sProp 𝕄) := by unfold sumPts; rw [View.set_whole]

/-- Six facts one by one. -/
theorem six {M : Type} [URA M] (Φ : Fin 6 → sProp M) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

omit [FloatOps F] in
/-- The receive buffer is its six slots. -/
theorem slots_eq (c : Dev nD) (f : (cc0_scratch1 : Ref sig .tc).ty.Contents (Elt F)) :
    (((c : Thread nD τ).loc cc0_scratch1) ↦{fullShare} f : sProp 𝕄) = bigSep Finset.univ fun k => slotPts c k f :=
  Ring.pointsTo_blocks (ℓ := (c : Thread nD τ).loc cc0_scratch1) slotI slot_disjoint slot_cover f

/-- The share of the accumulator the copy to partner `k` reads: the three copies of a round split it. -/
def shareOf (k : Fin 6) : PosShare TreeShare :=
  if k.val % 3 = 0 then fullShare.left else if k.val % 3 = 1 then fullShare.right.left else fullShare.right.right

omit [FloatOps F] in
/-- The accumulator is the three shares one round reads. -/
theorem sum_split (c : Dev nD) (f : (cc0_scratch0 : Ref sig .tc).ty.Contents (Elt F)) (k₀ k₁ k₂ : Fin 6)
    (h₀ : k₀.val % 3 = 0) (h₁ : k₁.val % 3 = 1) (h₂ : k₂.val % 3 = 2) :
    (sumPts fullShare c f : sProp 𝕄) ⊣⊢ iprop(sumPts (shareOf k₀) c f ∗ sumPts (shareOf k₁) c f ∗ sumPts (shareOf k₂) c f) := by
  have e₀ : shareOf k₀ = fullShare.left := if_pos h₀
  have e₁ : shareOf k₁ = fullShare.right.left := (if_neg (by omega)).trans (if_pos h₁)
  have e₂ : shareOf k₂ = fullShare.right.right := (if_neg (by omega)).trans (if_neg (by omega))
  rw [e₀, e₁, e₂]
  unfold sumPts
  have a := pointsTo_share (Ix := Unit) (Name := ℕ) (U := UU) (Lvl := ℕ) (Val := Elt F) (ℓ := (sumM : Memref sig .tc .vmem S128x128 .f32).view.loc (c : Thread nD τ))
    (I := (sumM : Memref sig .tc .vmem S128x128 .f32).view.set) (f := f) (PosShare.mem_left_op_right fullShare)
  have b := pointsTo_share (Ix := Unit) (Name := ℕ) (U := UU) (Lvl := ℕ) (Val := Elt F) (ℓ := (sumM : Memref sig .tc .vmem S128x128 .f32).view.loc (c : Thread nD τ))
    (I := (sumM : Memref sig .tc .vmem S128x128 .f32).view.set) (f := f) (PosShare.mem_left_op_right fullShare.right)
  constructor
  · exact a.1.trans (sep_mono_right b.1)
  · exact (sep_mono_right b.2).trans a.2

/-! ## The schedule -/

/-- Partner `k`'s signal hands `c` slot `k` of partner `k`'s receive buffer and the start of that slot's receive cell. -/
def barPay (c : Dev nD) (k : Fin 6) : sProp 𝕄 := iprop((∃ f, slotPts (peer k c) k f) ∗ reached EX (recvCell (peer k c) k) 0)
/-- Partner `k`'s copy hands `c` its slot `k` filled. -/
def recvPay (c : Dev nD) (k : Fin 6) : sProp 𝕄 := slotPts c k (landed m c)
/-- The completion of `c`'s copy to partner `k` hands back the share it read. -/
def sendPay (c : Dev nD) (k : Fin 6) : sProp 𝕄 := sumPts (shareOf k) c (sent m k c)

/-- The payload of a semaphore of device `c`, by role. -/
def payOf (c : Dev nD) : SemLoc sig → Fin 6 → sProp 𝕄
  | .reg _, d => barPay c d
  | .dma q, _ => match role q with
    | some (true, k) => recvPay m c k
    | some (false, k) => sendPay m c k
    | none => iprop(emp)

/-- The duties of a semaphore: six at the barrier, one at a transfer semaphore, none elsewhere. -/
def dutiesOf : SemLoc sig → Finset (Fin 6)
  | .reg _ => Finset.univ
  | .dma q => match role q with
    | some _ => {0}
    | none => ∅

def amountOf : SemLoc sig → ℕ
  | .reg _ => 1
  | .dma _ => N

/-- One round per cell. -/
def plan : Rounds.Schedule (GSem nD τ sig) (Fin 6) 𝕄 where
  duties g r := if r = 0 ∧ g.1.2 = .tc then dutiesOf g.2 else ∅
  unitless _ := False
  amount g _ _ := amountOf g.2
  payload g _ d := payOf m g.1.1 g.2 d
  amount_pos g _ _ _ := by
    show 0 < amountOf g.2
    cases g.2
    · exact Nat.one_pos
    · exact N_pos

instance plan_payload_storable (g : GSem nD τ sig) (r : ℕ) (d : Fin 6) :
    BI.Storable (upEmb : UEmb _ 𝕄) ((plan (F := F) m).payload g r d) := by
  show BI.Storable upEmb (payOf m g.1.1 g.2 d)
  unfold payOf barPay recvPay sendPay
  (repeat' split) <;> infer_instance

section Sched
variable (c : Dev nD) (k : Fin 6)

theorem duties_bar : (plan (F := F) m).duties (barCell c) 0 = Finset.univ := by
  dsimp only [plan]; exact if_pos ⟨rfl, rfl⟩
theorem duties_send : (plan (F := F) m).duties (sendCell c k) 0 = {0} :=
  by dsimp only [plan]; rw [if_pos ⟨rfl, rfl⟩]; dsimp only [dutiesOf]; rw [role_send]
theorem duties_recv : (plan (F := F) m).duties (recvCell c k) 0 = {0} :=
  by dsimp only [plan]; rw [if_pos ⟨rfl, rfl⟩]; dsimp only [dutiesOf]; rw [role_recv]
theorem duties_later (g : GSem nD τ sig) : ∀ r, 1 ≤ r → (plan (F := F) m).duties g r = ∅ :=
  fun r hr => if_neg fun h => by omega

theorem amount_bar : (plan (F := F) m).amount (barCell c) 0 k = 1 := rfl
theorem amount_send (d : Fin 6) : (plan (F := F) m).amount (sendCell c k) 0 d = N := rfl
theorem amount_recv (d : Fin 6) : (plan (F := F) m).amount (recvCell c k) 0 d = N := rfl
theorem credit_slot : (slotM k).view.dmaCredit = N := rfl

theorem expect_bar : (plan (F := F) m).expect (barCell c) 0 = 6 := by
  unfold Schedule.expect Schedule.amountOf
  rw [duties_bar]
  rfl
theorem expect_send : (plan (F := F) m).expect (sendCell c k) 0 = N := by
  unfold Schedule.expect Schedule.amountOf; rw [duties_send, Finset.sum_singleton]; rfl
theorem expect_recv : (plan (F := F) m).expect (recvCell c k) 0 = N := by
  unfold Schedule.expect Schedule.amountOf; rw [duties_recv, Finset.sum_singleton]; rfl

theorem payload_bar : (plan (F := F) m).payload (barCell c) 0 k = barPay c k := rfl
theorem payload_send (d : Fin 6) : (plan (F := F) m).payload (sendCell c k) 0 d = sendPay m c k := by
  show (match role (sendS k) with | some (true, k) => recvPay m c k | some (false, k) => sendPay m c k | none => iprop(emp)) = _
  rw [role_send]
theorem payload_recv (d : Fin 6) : (plan (F := F) m).payload (recvCell c k) 0 d = recvPay m c k := by
  show (match role (recvS k) with | some (true, k) => recvPay m c k | some (false, k) => sendPay m c k | none => iprop(emp)) = _
  rw [role_recv]

theorem rest_bar : bigSep ((plan (F := F) m).duties (barCell c) 0 \ ∅) (fun d => (plan (F := F) m).payload (barCell c) 0 d)
    = bigSep Finset.univ (barPay (F := F) c) := by
  rw [Finset.sdiff_empty, duties_bar]; rfl
theorem rest_send : bigSep ((plan (F := F) m).duties (sendCell c k) 0 \ ∅) (fun d => (plan (F := F) m).payload (sendCell c k) 0 d) = sendPay m c k := by
  rw [Finset.sdiff_empty, duties_send, bigSep_singleton, payload_send]
theorem rest_recv : bigSep ((plan (F := F) m).duties (recvCell c k) 0 \ ∅) (fun d => (plan (F := F) m).payload (recvCell c k) 0 d) = recvPay m c k := by
  rw [Finset.sdiff_empty, duties_recv, bigSep_singleton, payload_recv]

end Sched

/-! ## Debts and levels -/

/-- The credit device `c` owes partner `k`'s receive cell; -/
abbrev owR (c : Dev nD) (k : Fin 6) : CellTallies nD τ sig Unit := tallyAt (recvCell (peer k c) k) () N
/-- the unit it owes partner `k`'s barrier cell. -/
abbrev owB (c : Dev nD) (k : Fin 6) : CellTallies nD τ sig Unit := tallyAt (barCell (peer k c)) () 1

/-- The second-round copies owed; all copies owed; everything owed at launch. -/
def late (c : Dev nD) : CellTallies nD τ sig Unit := 0 + owR c 5 + owR c 4 + owR c 3
def copies (c : Dev nD) : CellTallies nD τ sig Unit := late c + owR c 2 + owR c 1 + owR c 0
def debt (c : Dev nD) : CellTallies nD τ sig Unit := copies c + owB c 5 + owB c 4 + owB c 3 + owB c 2 + owB c 1 + owB c 0

def L (g : GSem nD τ sig) : Finset Unit := if g.1.2 = .tc then {()} else ∅
def lvOf : SemLoc sig → ℕ
  | .reg _ => 1
  | .dma q => match role q with
    | some (true, k) => if k.val < 3 then 2 else 3
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_send (k : Fin 6) : lvOf (.dma (sendS k)) = 0 := by
  show (match role (sendS k) with | some (true, k) => if k.val < 3 then 2 else 3 | _ => 0) = _
  rw [role_send]
theorem lv_recv (k : Fin 6) : lvOf (.dma (recvS k)) = if k.val < 3 then 2 else 3 := by
  show (match role (recvS k) with | some (true, k) => if k.val < 3 then 2 else 3 | _ => 0) = _
  rw [role_recv]

/-- Every debt in `O` lies at a core's cell above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (a : ℕ) (h : n < lvOf sm) : Above n (tallyAt ((c : Thread nD τ), sm) () a) := fun g u hg => by
  rw [tallyAt_apply] at hg
  by_cases e : g = ((c : Thread nD τ), sm) ∧ u = ()
  · rw [e.1]; exact ⟨rfl, h⟩
  · rw [if_neg e] at hg; exact absurd hg (Nat.lt_irrefl 0)
theorem above_owR {n : ℕ} (c : Dev nD) (k : Fin 6) (h : n < if k.val < 3 then 2 else 3) : Above n (owR c k) :=
  above_tally _ _ _ (by rw [lv_recv]; exact h)
theorem above_owB {n : ℕ} (c : Dev nD) (k : Fin 6) (h : n < 1) : Above n (owB c k) := above_tally _ _ _ h

theorem above_late (c : Dev nD) : Above 2 (late c) :=
  above_add (above_add (above_add (above_zero 2) (above_owR c 5 (by decide))) (above_owR c 4 (by decide))) (above_owR c 3 (by decide))
theorem Above.mono {n n' : ℕ} {O : CellTallies nD τ sig Unit} (h : Above n O) (hn : n' ≤ n) : Above n' O := fun g u hg => ⟨(h g u hg).1, lt_of_le_of_lt hn (h g u hg).2⟩
theorem above_copies (c : Dev nD) : Above 1 (copies c) :=
  above_add (above_add (above_add ((above_late c).mono (by decide)) (above_owR c 2 (by decide))) (above_owR c 1 (by decide))) (above_owR c 0 (by decide))
theorem above_debt (c : Dev nD) : Above 0 (debt c) :=
  above_add (above_add (above_add (above_add (above_add (above_add ((above_copies c).mono (by decide)) (above_owB c 5 (by decide))) (above_owB c 4 (by decide)))
    (above_owB c 3 (by decide))) (above_owB c 2 (by decide))) (above_owB c 1 (by decide))) (above_owB c 0 (by decide))

/-- A core may wait on a cell no higher than all it owes. -/
theorem mayWait {n : ℕ} (c : Dev nD) (sm : SemLoc sig) (hs : lvOf sm ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-! ## The data of the staged call -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Rectangles of the two batch entries of a staged 2 × 4096 × 512 block. -/
abbrev b0 : Rect S2x4096x512 := Rect.unit (s := S2x4096x512) ![0, 0, 0] S1x4096x512.size inb_S2x4096x512_S1x4096x512_0_0_0
abbrev b1 : Rect S2x4096x512 := Rect.unit (s := S2x4096x512) ![1, 0, 0] S1x4096x512.size inb_S2x4096x512_S1x4096x512_1_0_0

/-- Scale and shift rows. -/
def scaleV (c : Dev nD) : FVec F S2x512 .f32 := k0_pay4 (tin m c) (ain m c)
def shiftV (c : Dev nD) : FVec F S2x512 .f32 := k0_pay5 (tin m c) (bin m c)
/-- The two halves of the result. -/
def out0 (c : Dev nD) : FVec F S1x4096x512 .bf16 :=
  k0_pay13 (scaleV m c) (shiftV m c) (k0_pay8 (sum2 m c)) (k0_pay9 (sum2 m c)) (k0_pay10 (F := F)) (xM.view.readAt (Elt F) b0.toLoadRect (xin m c))
def out1 (c : Dev nD) : FVec F S1x4096x512 .bf16 :=
  k0_pay1 (k0_pay14 (k0_pay9 (sum2 m c)) (k0_pay10 (F := F))) (k0_pay15 (k0_pay8 (sum2 m c)) (k0_pay9 (sum2 m c)) (k0_pay10 (F := F)))
    (k0_pay16 (scaleV m c)) (k0_pay17 (shiftV m c)) (k0_pay18 (xM.view.readAt (Elt F) b1.toLoadRect (xin m c)))

/-- The result block of device `c`: batch entry 0 from the first half, entry 1 from the second. -/
def outAt (c : Dev nD) : (cc0_stg4_0 : Ref sig .tc).ty.Contents (Elt F) := fun (i : S2x4096x512.Idx) =>
  if (i 0).val = 0 then out0 m c (ValueIdx.ix3 (0 : Fin 1) (i 1 : Fin 4096) (i 2 : Fin 512) : (⟨3, ![1, 4096, 512]⟩ : Shape).Idx)
  else out1 m c (ValueIdx.ix3 (0 : Fin 1) (i 1 : Fin 4096) (i 2 : Fin 512) : (⟨3, ![1, 4096, 512]⟩ : Shape).Idx)

/-- All cells, indexed: barrier, six sends, six receives. -/
abbrev csem : Option (Bool × Fin 6) → SemLoc sig
  | none => .reg barS
  | some (false, k) => .dma (sendS k)
  | some (true, k) => .dma (recvS k)
abbrev CellIx : Type := Dev nD × Option (Bool × Fin 6)
abbrev kcell (x : CellIx) : GSem nD τ sig := ((x.1 : Thread nD τ), csem x.2)

/-- The invariants of all cells, under the names the launch chose, and that every cell is in its first round. -/
def known (K : CellIx → ℕ) : sProp 𝕄 :=
  iprop(bigSep Finset.univ (fun x => cellInv EX (plan m) (K x) (kcell x)) ∗ bigSep Finset.univ (fun x => reached EX (kcell x) 0))

instance known_persistent (K : CellIx → ℕ) : BI.Persistent (known (F := F) m K) := by unfold known; infer_instance

/-- What device `c` holds of partner `k`'s exchange at the start: the tokens for the signal, the copy and its completion,
    its positions at its send and receive cells, and the credit for the block it will receive. -/
def link (c : Dev nD) (k : Fin 6) : sProp 𝕄 :=
  iprop(dutyTok EX (barCell (peer k c)) 0 k ∗ dutyTok EX (sendCell c k) 0 0 ∗ dutyTok EX (recvCell (peer k c) k) 0 0
    ∗ atPos EX (sendCell c k) 0 ∅ 0 ∗ atPos EX (recvCell c k) 0 ∅ 0)

/-- All that at some names, the barrier position, the credits, and the levels. -/
def start (c : Dev nD) : sProp 𝕄 :=
  iprop((∃ K, known m K) ∗ bigSep Finset.univ (link (F := F) c) ∗ atPos EX (barCell c) 0 ∅ 0
    ∗ cred (tallyAt (barCell c) () 6) ∗ bigSep Finset.univ (fun k => cred (tallyAt (recvCell c k) () N)) ∗ levAts L lv)

def Φ₀ (c : Dev nD) : sProp 𝕄 := iprop(start m c ∗ (∃ f, sumPts fullShare c f) ∗ (∃ f, bigSep Finset.univ fun k => slotPts c k f))
/-- Afterwards: the scratch buffers whole, every cell closed at zero. -/
def Φ₁ (c : Dev nD) : sProp 𝕄 :=
  iprop(sumPts fullShare c (sum2 m c) ∗ (bigSep Finset.univ fun k => slotPts c k (landed m c))
    ∗ (bigSep Finset.univ fun k => semVal (sendCell c k) 0) ∗ (bigSep Finset.univ fun k => semVal (recvCell c k) 0) ∗ semVal (barCell c) 0)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xin m c
    | ⟨1, _⟩ => tin m c
    | ⟨2, _⟩ => ain m c
    | ⟨3, _⟩ => bin m c
    | ⟨4, _⟩ => outAt m c
  Φ t := match t with
    | ⟨0, _⟩ => Φ₀ m c
    | ⟨_ + 1, _⟩ => Φ₁ m c
  q _ := fullShare
  owed t := match t with
    | ⟨0, _⟩ => debt c
    | ⟨_ + 1, _⟩ => 0

abbrev 𝒱₀ : Variants := Variants.none

end Cert.KernelIdeal.Stats
-- ==== Proof.KernelIdeal.Body.lean ====
/-
# The kernel body on one device

One rule per operation of the exchange, each for an arbitrary partner, and the body executed with them in program
order.
-/
module

public import proofs.«01_k».proof.Proof.KernelIdeal.Plan

@[expose] public section

noncomputable section

namespace Cert.KernelIdeal.Stats

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : CellIx → ℕ)

/-! ## What every device knows -/

theorem inv_bar (c : Dev nD) : known m K ⊢ (cellInv EX (plan m) (K (c, none)) (barCell c) : sProp 𝕄) := by
  unfold known
  exact BI.sep_and.trans (and_elimL.trans (bigSep_elim (Finset.mem_univ ((c, none) : CellIx))))
theorem inv_send (c : Dev nD) (k : Fin 6) : known m K ⊢ (cellInv EX (plan m) (K (c, some (false, k))) (sendCell c k) : sProp 𝕄) := by
  unfold known
  exact BI.sep_and.trans (and_elimL.trans (bigSep_elim (Finset.mem_univ ((c, some (false, k)) : CellIx))))
theorem inv_recv (c : Dev nD) (k : Fin 6) : known m K ⊢ (cellInv EX (plan m) (K (c, some (true, k))) (recvCell c k) : sProp 𝕄) := by
  unfold known
  exact BI.sep_and.trans (and_elimL.trans (bigSep_elim (Finset.mem_univ ((c, some (true, k)) : CellIx))))
theorem at_bar (c : Dev nD) : known m K ⊢ (reached EX (barCell c) 0 : sProp 𝕄) := by
  unfold known
  exact BI.sep_and.trans (and_elimR.trans (bigSep_elim (Finset.mem_univ ((c, none) : CellIx))))
theorem at_send (c : Dev nD) (k : Fin 6) : known m K ⊢ (reached EX (sendCell c k) 0 : sProp 𝕄) := by
  unfold known
  exact BI.sep_and.trans (and_elimR.trans (bigSep_elim (Finset.mem_univ ((c, some (false, k)) : CellIx))))
theorem at_recv (c : Dev nD) (k : Fin 6) : known m K ⊢ (reached EX (recvCell c k) 0 : sProp 𝕄) := by
  unfold known
  exact BI.sep_and.trans (and_elimR.trans (bigSep_elim (Finset.mem_univ ((c, some (true, k)) : CellIx))))

/-! ## One rule per exchange operation -/

/-- Signalling partner `k`: the token and `c`'s own slot `k` go, one unit of debt is paid. -/
theorem step_signal (c n : Dev nD) (k : Fin 6) (hn : n = peer k c) {s : Sem sig} (hs : s = barS) {z : Int} (hz : z = ((1 : ℕ) : Int))
    {O₀ : CellTallies nD τ sig Unit} (O : CellTallies nD τ sig Unit) (hO : O₀ = O + owB c k) (W : Waits sig Unit)
    {α : Type} {Q : α → sProp 𝕄} {kk : PUnit → Prog (TpuEff nD τ sig (Elt F) Λ₀ .tc) α} :
    iprop(known m K ∗ owes (c : Thread nD τ) O₀ W ∗ dutyTok EX (barCell (peer k c)) 0 k ∗ ∃ f, slotPts c k f)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) s z) kk) Q) := by
  subst hn hs hz
  iintro ⟨#HK, HO, Ht, Hs⟩
  iapply (Rounds.wp_signal 𝒱₀ EX (plan m) (c : Thread nD τ) none (dst := (peer k c : Thread nD τ)) (κ := K (peer k c, none))
      (d := k) (by rw [duties_bar]; exact Finset.mem_univ _) rfl () O hO)
  isplitr; · iapply (inv_bar m K (peer k c)); iexact HK
  isplitl [HO]; · iexact HO
  isplitl [Ht]; · iexact Ht
  isplitl [Hs]
  · rw [payload_bar]; unfold barPay; rw [peer_peer]
    isplitl [Hs]; · iexact Hs
    iapply (at_recv m K c k); iexact HK
  iapply (at_bar m K (peer k c)); iexact HK

/-- Waiting at the barrier: all six partners' slots come. -/
theorem step_barrier (c : Dev nD) {s : Sem sig} (hs : s = barS) {z : Int} (hz : z = ((6 : ℕ) : Int))
    (O : CellTallies nD τ sig Unit) (hO : Above 1 O) (W : Waits sig Unit)
    {α : Type} {Q : α → sProp 𝕄} {kk : PUnit → Prog (TpuEff nD τ sig (Elt F) Λ₀ .tc) α} :
    iprop(known m K ∗ levAts L lv ∗ cred (tallyAt (barCell c) () 6) ∗ owes (c : Thread nD τ) O W ∗ atPos EX (barCell c) 0 ∅ 0)
      ⊢ iprop(((owes (c : Thread nD τ) O (insert (SemLoc.reg barS, ()) W) ∗ atPos EX (barCell c) 1 ∅ 0 ∗ bigSep Finset.univ (barPay (F := F) c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait s z) kk) Q) := by
  subst hs hz
  iintro ⟨#HK, #Hl, Hc, HO, Ha⟩ Hk
  iapply (Rounds.wp_wait_rest_token 𝒱₀ EX (plan m) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Ha]
  · isplitr; · iapply (inv_bar m K c); iexact HK
    isplitl [Hc]; · iexact Hc
    isplitl [HO]; · iexact HO
    isplitr; · iapply (mayWait (n := 1) c (.reg barS) (le_refl 1) O hO); iexact Hl
    iexact Ha
  iintro ⟨HO, Ha, -, Hpay⟩
  ihave Hp := (Entails.of_eq (rest_bar m c)) $$ Hpay
  iapply Hk
  isplitl [HO]; · iexact HO
  isplitl [Ha]; · iexact Ha
  iexact Hp

/-- Copying to partner `k`: a share of the accumulator and the partner's slot go, the block's credit is paid. -/
theorem step_send (c n : Dev nD) (k : Fin 6) (hn : n = peer k c) {s s' : DmaSem sig} (hs : s = sendS k) (hs' : s' = recvS k)
    {M : Memref sig .tc .vmem S128x128 .f32} (hM : M = slotM k) {hsc : (M : Memref sig (Dev.tc n : Thread nD τ).2.kind .vmem S128x128 .f32).view.ref.isScScratch = false}
    {hsrc : (sumM : Memref sig .tc .vmem S128x128 .f32).view.WordExact} {hdst : (M : Memref sig .tc .vmem S128x128 .f32).view.WordExact}
    {hsem : DmaTarget.Typed .vmem (.dma s') (.remote (Dev.tc n : Thread nD τ) (M : Memref sig .tc .vmem S128x128 .f32) (.dma s) hsc)}
    {O₀ : CellTallies nD τ sig Unit} (O : CellTallies nD τ sig Unit) (hO : O₀ = O + owR c k) (W : Waits sig Unit)
    {α : Type} {Q : α → sProp 𝕄} {kk : PUnit → Prog (TpuEff nD τ sig (Elt F) Λ₀ .tc) α} :
    iprop(known m K ∗ sumPts (shareOf k) c (sent m k c) ∗ (∃ f, slotPts (peer k c) k f) ∗ owes (c : Thread nD τ) O₀ W
        ∗ dutyTok EX (sendCell c k) 0 0 ∗ dutyTok EX (recvCell (peer k c) k) 0 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sumM (.remote (Dev.tc n : Thread nD τ) M (.dma s) hsc) (.dma s') hsrc hdst hsem) kk) Q) := by
  subst hn hs hs' hM
  iintro ⟨#HK, Hx, ⟨%fd, Hd⟩, HO, Ht, Ht'⟩
  unfold sumPts slotPts
  iapply (Rounds.wp_send_pointsTo 𝒱₀ EX (plan m) (c : Thread nD τ) none (κ₁ := K (c, some (false, k))) (κ₂ := K (peer k c, some (true, k)))
    (r₁ := 0) (r₂ := 0) (d₁ := 0) (d₂ := 0) (fd := fd) (fs := sent m k c) (q := shareOf k)
    (c' := (peer k c : Thread nD τ)) (src := sumM) (dst := slotM k) (sem := .dma (recvS k)) (sS := .dma (sendS k))
    (by rw [duties_send]; exact Finset.mem_singleton_self _) (by rw [duties_recv]; exact Finset.mem_singleton_self _)
    () () N (credit_slot k) (amount_send m c k 0) (amount_recv m (peer k c) k 0) O hO (W := W)
    (by rw [payload_send]; exact BI.Entails.refl _)
    (by
      rw [payload_recv]; unfold recvPay slotPts
      refine Entails.of_eq (pointsTo_congr fun i hi => ?_)
      have h := write_slot m k (peer k c) fd i hi
      rw [peer_peer] at h
      rw [show (sumM : Memref sig .tc .vmem S128x128 .f32).view.read (Elt F) (sent m k c) = sent m k c from View.read_whole _ _]
      exact h))
  isplitr; · iapply (inv_send m K c k); iexact HK
  isplitr; · iapply (inv_recv m K (peer k c) k); iexact HK
  isplitl [Hx]; · iexact Hx
  isplitl [Hd]; · iexact Hd
  isplitl [HO]; · iexact HO
  isplitl [Ht]; · iexact Ht
  isplitr; · iapply (at_send m K c k); iexact HK
  isplitl [Ht']; · iexact Ht'
  iapply (at_recv m K (peer k c) k); iexact HK

/-- Waiting for the completion of the copy to partner `k`: the share comes back. -/
theorem step_sent (c : Dev nD) (k : Fin 6) {s : DmaSem sig} (hs : s = sendS k) {M : Memref sig .tc .vmem S128x128 .f32}
    {h₁ : M.view.WordExact} {h₂ : (sumM : Memref sig .tc .vmem S128x128 .f32).view.WordExact}
    (O : CellTallies nD τ sig Unit) (hO : Above 0 O) (W : Waits sig Unit)
    {α : Type} {Q : α → sProp 𝕄} {kk : PUnit → Prog (TpuEff nD τ sig (Elt F) Λ₀ .tc) α} :
    iprop(known m K ∗ levAts L lv ∗ cred (tallyAt (sendCell c k) () N) ∗ owes (c : Thread nD τ) O W ∗ atPos EX (sendCell c k) 0 ∅ 0)
      ⊢ iprop(((owes (c : Thread nD τ) O (insert (SemLoc.dma (sendS k), ()) W) ∗ atPos EX (sendCell c k) 1 ∅ 0 ∗ sumPts (shareOf k) c (sent m k c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s M sumM h₁ h₂) kk) Q) := by
  subst hs
  iintro ⟨#HK, #Hl, Hc, HO, Ha⟩ Hk
  iapply (Rounds.wp_wait_rest_token 𝒱₀ EX (plan m) (c : Thread nD τ) none (κ := K (c, some (false, k)))
      (wpE_waitDma2_eq 𝒱₀ (c : Thread nD τ) none Set.univ) (Set.mem_univ _) () (O := O) (W := W) (R := 0) (m := 0) (T := ∅)
      (by rw [Nat.zero_add, expect_send])) $$ [Hc HO Ha]
  · isplitr; · iapply (inv_send m K c k); iexact HK
    isplitl [Hc]; · iexact Hc
    isplitl [HO]; · iexact HO
    isplitr; · iapply (mayWait (n := 0) c (.dma (sendS k)) (by rw [lv_send]) O hO); iexact Hl
    iexact Ha
  iintro ⟨HO, Ha, -, Hpay⟩
  ihave Hp := (Entails.of_eq (rest_send m c k)) $$ Hpay
  unfold sendPay
  iapply Hk
  isplitl [HO]; · iexact HO
  isplitl [Ha]; · iexact Ha
  iexact Hp

/-- Waiting for partner `k`'s copy: slot `k` comes, filled. -/
theorem step_recv (c : Dev nD) (k : Fin 6) {s : DmaSem sig} (hs : s = recvS k) {M : Memref sig .tc .vmem S128x128 .f32} (hM : M = slotM k)
    {h₁ : (sumM : Memref sig .tc .vmem S128x128 .f32).view.WordExact} {h₂ : M.view.WordExact}
    {n : ℕ} (hn : (if k.val < 3 then 2 else 3) ≤ n) (O : CellTallies nD τ sig Unit) (hO : Above n O) (W : Waits sig Unit)
    {α : Type} {Q : α → sProp 𝕄} {kk : PUnit → Prog (TpuEff nD τ sig (Elt F) Λ₀ .tc) α} :
    iprop(known m K ∗ levAts L lv ∗ cred (tallyAt (recvCell c k) () N) ∗ owes (c : Thread nD τ) O W ∗ atPos EX (recvCell c k) 0 ∅ 0)
      ⊢ iprop(((owes (c : Thread nD τ) O (insert (SemLoc.dma (recvS k), ()) W) ∗ atPos EX (recvCell c k) 1 ∅ 0 ∗ slotPts c k (landed m c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s sumM M h₁ h₂) kk) Q) := by
  subst hs hM
  iintro ⟨#HK, #Hl, Hc, HO, Ha⟩ Hk
  iapply (Rounds.wp_wait_rest_token 𝒱₀ EX (plan m) (c : Thread nD τ) none (κ := K (c, some (true, k)))
      (wpE_waitDma2_eq 𝒱₀ (c : Thread nD τ) none Set.univ) (Set.mem_univ _) () (O := O) (W := W) (R := 0) (m := 0) (T := ∅)
      (by rw [Nat.zero_add, expect_recv])) $$ [Hc HO Ha]
  · isplitr; · iapply (inv_recv m K c k); iexact HK
    isplitl [Hc]; · iexact Hc
    isplitl [HO]; · iexact HO
    isplitr; · iapply (mayWait (n := n) c (.dma (recvS k)) (by rw [lv_recv]; exact hn) O hO); iexact Hl
    iexact Ha
  iintro ⟨HO, Ha, -, Hpay⟩
  ihave Hp := (Entails.of_eq (rest_recv m c k)) $$ Hpay
  unfold recvPay
  iapply Hk
  isplitl [HO]; · iexact HO
  isplitl [Ha]; · iexact Ha
  iexact Hp

/-- A finished cell closes at zero. -/
theorem shut_bar (c : Dev nD) : iprop(known m K ∗ atPos EX (barCell c) 1 ∅ 0) ⊢ (|={Set.univ}=> semVal (barCell c) 0 : sProp 𝕄) :=
  (sep_mono_left (inv_bar m K c)).trans (Rounds.cell_close EX (plan m) (Set.mem_univ (K (c, none))) (fun h => h) (R := 1) (duties_later m (barCell c)))
theorem shut_send (c : Dev nD) (k : Fin 6) : iprop(known m K ∗ atPos EX (sendCell c k) 1 ∅ 0) ⊢ (|={Set.univ}=> semVal (sendCell c k) 0 : sProp 𝕄) :=
  (sep_mono_left (inv_send m K c k)).trans (Rounds.cell_close EX (plan m) (Set.mem_univ (K (c, some (false, k)))) (fun h => h) (R := 1) (duties_later m (sendCell c k)))
theorem shut_recv (c : Dev nD) (k : Fin 6) : iprop(known m K ∗ atPos EX (recvCell c k) 1 ∅ 0) ⊢ (|={Set.univ}=> semVal (recvCell c k) 0 : sProp 𝕄) :=
  (sep_mono_left (inv_recv m K c k)).trans (Rounds.cell_close EX (plan m) (Set.mem_univ (K (c, some (true, k)))) (fun h => h) (R := 1) (duties_later m (recvCell c k)))

/-- All finished cells of one kind close at zero. -/
theorem shut_sends (c : Dev nD) : iprop(known m K ∗ bigSep Finset.univ fun k => atPos EX (sendCell c k) 1 ∅ 0)
    ⊢ (|={Set.univ}=> bigSep Finset.univ fun k => semVal (sendCell c k) 0 : sProp 𝕄) :=
  ((sep_mono_left (BI.bigSep_of_persistent Finset.univ (known m K))).trans (by rw [← bigSep_sep']; exact bigSep_mono fun k _ => shut_send m K c k)).trans
    (bigSep_fupd _ _)
theorem shut_recvs (c : Dev nD) : iprop(known m K ∗ bigSep Finset.univ fun k => atPos EX (recvCell c k) 1 ∅ 0)
    ⊢ (|={Set.univ}=> bigSep Finset.univ fun k => semVal (recvCell c k) 0 : sProp 𝕄) :=
  ((sep_mono_left (BI.bigSep_of_persistent Finset.univ (known m K))).trans (by rw [← bigSep_sep']; exact bigSep_mono fun k _ => shut_recv m K c k)).trans
    (bigSep_fupd _ _)

/-! ## Reads and writes -/

theorem zero2 : (![0, 0] : Fin 2 → Nat) = fun _ => 0 := funext fun a => by fin_cases a <;> rfl
theorem zero3 : (![0, 0, 0] : Fin 3 → Nat) = fun _ => 0 := funext fun a => by fin_cases a <;> rfl

abbrev wX : Rect S2x4096x512 := Rect.unit (s := S2x4096x512) ![0, 0, 0] S2x4096x512.size inb_S2x4096x512_S2x4096x512_0_0_0
abbrev wT : Rect S2x128 := Rect.unit (s := S2x128) ![0, 0] S2x128.size inb_S2x128_S2x128_0_0
abbrev wW : Rect S128x512 := Rect.unit (s := S128x512) ![0, 0] S128x512.size inb_S128x512_S128x512_0_0
abbrev wS : Rect S128x128 := Rect.unit (s := S128x128) ![0, 0] S128x128.size inb_S128x128_S128x128_0_0

omit [FloatOps F] in
theorem readX (f : (cc0_stg0_0 : Ref sig .tc).ty.Contents (Elt F)) : xM.view.readAt (Elt F) wX.toLoadRect f = f :=
  Memref.readAt_unit_zero (Elt F) cc0_stg0_0 zero3 _ f
omit [FloatOps F] in
theorem readT (f : (cc0_stg1_0 : Ref sig .tc).ty.Contents (Elt F)) : tM.view.readAt (Elt F) wT.toLoadRect f = f :=
  Memref.readAt_unit_zero (Elt F) cc0_stg1_0 zero2 _ f
omit [FloatOps F] in
theorem readA (f : (cc0_stg2_0 : Ref sig .tc).ty.Contents (Elt F)) : aM.view.readAt (Elt F) wW.toLoadRect f = f :=
  Memref.readAt_unit_zero (Elt F) cc0_stg2_0 zero2 _ f
omit [FloatOps F] in
theorem readB (f : (cc0_stg3_0 : Ref sig .tc).ty.Contents (Elt F)) : bM.view.readAt (Elt F) wW.toLoadRect f = f :=
  Memref.readAt_unit_zero (Elt F) cc0_stg3_0 zero2 _ f
omit [FloatOps F] in
theorem readS (f : (cc0_scratch0 : Ref sig .tc).ty.Contents (Elt F)) : sumM.view.readAt (Elt F) wS.toLoadRect f = f :=
  Memref.readAt_unit_zero (Elt F) cc0_scratch0 zero2 _ f
omit [FloatOps F] in
theorem writeS (f w : (cc0_scratch0 : Ref sig .tc).ty.Contents (Elt F)) :
    (sumM.access wS : View sig .tc _ _ _).write (Elt F) f w Finset.univ = w :=
  Memref.write_access_unit_zero_univ (Elt F) cc0_scratch0 zero2 _ f w

/-- Slot `k` of the landed buffer, loaded and recast, is partner `k`'s block. -/
theorem cast_slot (k : Fin 6) (c : Dev nD) (h) :
    shapeCast S128x128 (rcvM.view.readAt (Elt F) (slotR k).toLoadRect (landed m c)) h = sent m k (peer k c) := read_slot m k c

/-- The first update of the accumulator makes the group's sums; -/
theorem pay6_eq (c : Dev nD) :
    k0_pay6 (sum0 m c) (rcvM.view.readAt (Elt F) (slotR 0).toLoadRect (landed m c)) (rcvM.view.readAt (Elt F) (slotR 1).toLoadRect (landed m c))
      (rcvM.view.readAt (Elt F) (slotR 2).toLoadRect (landed m c)) = sum1 m c := by
  unfold k0_pay6
  dsimp only
  rw [cast_slot, cast_slot, cast_slot, shapeCast_self]
  rfl
/-- the second those of all devices. -/
theorem pay7_eq (c : Dev nD) :
    k0_pay7 (sum1 m c) (rcvM.view.readAt (Elt F) (slotR 3).toLoadRect (landed m c)) (rcvM.view.readAt (Elt F) (slotR 4).toLoadRect (landed m c))
      (rcvM.view.readAt (Elt F) (slotR 5).toLoadRect (landed m c)) = sum2 m c := by
  unfold k0_pay7
  dsimp only
  rw [cast_slot, cast_slot, cast_slot, shapeCast_self]
  rfl

omit [FloatOps F] in
/-- The two stores fill the result block. -/
theorem write_out (f : (cc0_stg4_0 : Ref sig .tc).ty.Contents (Elt F)) (u v : FVec F S1x4096x512 .bf16) (i : S2x4096x512.Idx) :
    (oM.access b1 : View sig .tc _ _ _).write (Elt F) ((oM.access b0 : View sig .tc _ _ _).write (Elt F) f u Finset.univ) v Finset.univ i
      = if (i 0).val = 0 then u (ValueIdx.ix3 (0 : Fin 1) (i 1 : Fin 4096) (i 2 : Fin 512) : (⟨3, ![1, 4096, 512]⟩ : Shape).Idx)
        else v (ValueIdx.ix3 (0 : Fin 1) (i 1 : Fin 4096) (i 2 : Fin 512) : (⟨3, ![1, 4096, 512]⟩ : Shape).Idx) := by
  have h0 : (i 0).val < 2 := (i 0).isLt
  by_cases h : (i 0).val = 0
  · rw [if_pos h, View.write_of_not_mem (h := by
      intro hi
      obtain ⟨x, -, hx⟩ := Finset.mem_map.1 hi
      have e1 := congrArg (fun j : S2x4096x512.Idx => (j 0).val) hx
      have e2 : 1 + 1 * (x 0).val = (i 0).val := e1
      omega)]
    · have e : i = (oM.access b0 : View sig .tc _ _ _).emb (ValueIdx.ix3 (0 : Fin 1) (i 1 : Fin 4096) (i 2 : Fin 512) : (⟨3, ![1, 4096, 512]⟩ : Shape).Idx) := by
        funext a; fin_cases a
        · exact Fin.ext (by show (i 0).val = 0 + 1 * 0; omega)
        · exact Fin.ext (by show (i 1).val = 0 + 1 * (i 1).val; omega)
        · exact Fin.ext (by show (i 2).val = 0 + 1 * (i 2).val; omega)
      conv_lhs => rw [e]
      rw [View.write_emb_of_mem _ _ (Finset.mem_univ _)]
      rfl
  · rw [if_neg h]
    have e : i = (oM.access b1 : View sig .tc _ _ _).emb (ValueIdx.ix3 (0 : Fin 1) (i 1 : Fin 4096) (i 2 : Fin 512) : (⟨3, ![1, 4096, 512]⟩ : Shape).Idx) := by
      funext a; fin_cases a
      · exact Fin.ext (by show (i 0).val = 1 + 1 * 0; omega)
      · exact Fin.ext (by show (i 1).val = 0 + 1 * (i 1).val; omega)
      · exact Fin.ext (by show (i 2).val = 0 + 1 * (i 2).val; omega)
    conv_lhs => rw [e]
    rw [View.write_emb_of_mem _ _ (Finset.mem_univ _)]
    rfl

/-! ## The printed names of slots and semaphores -/

abbrev q0 : Rect S2x3x128x128 := Rect.unit (s := S2x3x128x128) ![0, 0, 0, 0] S1x1x128x128.size inb_S2x3x128x128_S1x1x128x128_0_0_0_0
abbrev q1 : Rect S2x3x128x128 := Rect.unit (s := S2x3x128x128) ![0, 1, 0, 0] S1x1x128x128.size inb_S2x3x128x128_S1x1x128x128_0_1_0_0
abbrev q2 : Rect S2x3x128x128 := Rect.unit (s := S2x3x128x128) ![0, 2, 0, 0] S1x1x128x128.size inb_S2x3x128x128_S1x1x128x128_0_2_0_0
abbrev q3 : Rect S2x3x128x128 := Rect.unit (s := S2x3x128x128) ![1, 0, 0, 0] S1x1x128x128.size inb_S2x3x128x128_S1x1x128x128_1_0_0_0
abbrev q4 : Rect S2x3x128x128 := Rect.unit (s := S2x3x128x128) ![1, 1, 0, 0] S1x1x128x128.size inb_S2x3x128x128_S1x1x128x128_1_1_0_0
abbrev q5 : Rect S2x3x128x128 := Rect.unit (s := S2x3x128x128) ![1, 2, 0, 0] S1x1x128x128.size inb_S2x3x128x128_S1x1x128x128_1_2_0_0

theorem send_eq0 : ((cc0_scratch2.slice (Rect.unit (s := S2x3) ![0, 0] S1x1.size inb_S2x3_S1x1_0_0)).squeeze S_ squeezes_S1x1_S_).sem = sendS 0 := by decide
theorem recv_eq0 : ((cc0_scratch3.slice (Rect.unit (s := S2x3) ![0, 0] S1x1.size inb_S2x3_S1x1_0_0)).squeeze S_ squeezes_S1x1_S_).sem = recvS 0 := by decide
theorem slot_eq0 : (rcvM.slice q0 (fun _ => rfl)).squeeze S128x128 squeezes_S1x1x128x128_S128x128 = slotM 0 := rfl
theorem rect_eq0 : q0 = slotR 0 := rfl
theorem send_eq1 : ((cc0_scratch2.slice (Rect.unit (s := S2x3) ![0, 1] S1x1.size inb_S2x3_S1x1_0_1)).squeeze S_ squeezes_S1x1_S_).sem = sendS 1 := by decide
theorem recv_eq1 : ((cc0_scratch3.slice (Rect.unit (s := S2x3) ![0, 1] S1x1.size inb_S2x3_S1x1_0_1)).squeeze S_ squeezes_S1x1_S_).sem = recvS 1 := by decide
theorem slot_eq1 : (rcvM.slice q1 (fun _ => rfl)).squeeze S128x128 squeezes_S1x1x128x128_S128x128 = slotM 1 := rfl
theorem rect_eq1 : q1 = slotR 1 := rfl
theorem send_eq2 : ((cc0_scratch2.slice (Rect.unit (s := S2x3) ![0, 2] S1x1.size inb_S2x3_S1x1_0_2)).squeeze S_ squeezes_S1x1_S_).sem = sendS 2 := by decide
theorem recv_eq2 : ((cc0_scratch3.slice (Rect.unit (s := S2x3) ![0, 2] S1x1.size inb_S2x3_S1x1_0_2)).squeeze S_ squeezes_S1x1_S_).sem = recvS 2 := by decide
theorem slot_eq2 : (rcvM.slice q2 (fun _ => rfl)).squeeze S128x128 squeezes_S1x1x128x128_S128x128 = slotM 2 := rfl
theorem rect_eq2 : q2 = slotR 2 := rfl
theorem send_eq3 : ((cc0_scratch2.slice (Rect.unit (s := S2x3) ![1, 0] S1x1.size inb_S2x3_S1x1_1_0)).squeeze S_ squeezes_S1x1_S_).sem = sendS 3 := by decide
theorem recv_eq3 : ((cc0_scratch3.slice (Rect.unit (s := S2x3) ![1, 0] S1x1.size inb_S2x3_S1x1_1_0)).squeeze S_ squeezes_S1x1_S_).sem = recvS 3 := by decide
theorem slot_eq3 : (rcvM.slice q3 (fun _ => rfl)).squeeze S128x128 squeezes_S1x1x128x128_S128x128 = slotM 3 := rfl
theorem rect_eq3 : q3 = slotR 3 := rfl
theorem send_eq4 : ((cc0_scratch2.slice (Rect.unit (s := S2x3) ![1, 1] S1x1.size inb_S2x3_S1x1_1_1)).squeeze S_ squeezes_S1x1_S_).sem = sendS 4 := by decide
theorem recv_eq4 : ((cc0_scratch3.slice (Rect.unit (s := S2x3) ![1, 1] S1x1.size inb_S2x3_S1x1_1_1)).squeeze S_ squeezes_S1x1_S_).sem = recvS 4 := by decide
theorem slot_eq4 : (rcvM.slice q4 (fun _ => rfl)).squeeze S128x128 squeezes_S1x1x128x128_S128x128 = slotM 4 := rfl
theorem rect_eq4 : q4 = slotR 4 := rfl
theorem send_eq5 : ((cc0_scratch2.slice (Rect.unit (s := S2x3) ![1, 2] S1x1.size inb_S2x3_S1x1_1_2)).squeeze S_ squeezes_S1x1_S_).sem = sendS 5 := by decide
theorem recv_eq5 : ((cc0_scratch3.slice (Rect.unit (s := S2x3) ![1, 2] S1x1.size inb_S2x3_S1x1_1_2)).squeeze S_ squeezes_S1x1_S_).sem = recvS 5 := by decide
theorem slot_eq5 : (rcvM.slice q5 (fun _ => rfl)).squeeze S128x128 squeezes_S1x1x128x128_S128x128 = slotM 5 := rfl
theorem rect_eq5 : q5 = slotR 5 := rfl

/-- Loading slot `k` once it is filled. -/
theorem step_slot (c : Dev nD) (k : Fin 6) {r : Rect S2x3x128x128} (hr : r = slotR k) {hl : rcvM.view.LoadsAt r.toLoadRect}
    {α : Type} {Q : α → sProp 𝕄} {kk : (r.shape.Idx → Elt F .f32) → Prog (TpuEff nD τ sig (Elt F) Λ₀ .tc) α} :
    (slotPts c k (landed m c) : sProp 𝕄)
      ⊢ iprop((slotPts c k (landed m c) -∗ wp frame (wpE (defs₀ (F := F)) 𝒱₀ (c : Thread nD τ) none) Set.univ (kk (rcvM.view.readAt (Elt F) r.toLoadRect (landed m c))) Q)
          -∗ wp frame (wpE (defs₀ (F := F)) 𝒱₀ (c : Thread nD τ) none) Set.univ (.op (.load rcvM r.toLoadRect hl) kk) Q) := by
  subst hr
  unfold slotPts
  exact wp_load 𝒱₀ (c : Thread nD τ) none Set.univ (m := rcvM) (by
    rw [show (slotM k).view.set = (slotR k).set from slot_set k]
    intro i hi
    obtain ⟨x, hx, rfl⟩ := Finset.mem_map.1 hi
    exact hx)

/-- The first update, with the slots loaded through the printed rectangles; -/
theorem pay6_loads (c : Dev nD) :
    k0_pay6 (sum0 m c) (rcvM.view.readAt (Elt F) q0.toLoadRect (landed m c)) (rcvM.view.readAt (Elt F) q1.toLoadRect (landed m c))
      (rcvM.view.readAt (Elt F) q2.toLoadRect (landed m c)) = sum1 m c := pay6_eq m c
/-- and the second. -/
theorem pay7_loads (c : Dev nD) :
    k0_pay7 (sum1 m c) (rcvM.view.readAt (Elt F) q3.toLoadRect (landed m c)) (rcvM.view.readAt (Elt F) q4.toLoadRect (landed m c))
      (rcvM.view.readAt (Elt F) q5.toLoadRect (landed m c)) = sum2 m c := pay7_eq m c

/-- The accumulator lent to the three copies of the first round; -/
theorem lend0 (c : Dev nD) : (((c : Thread nD τ).loc cc0_scratch0) ↦{fullShare} sum0 m c : sProp 𝕄)
    ⊣⊢ iprop(sumPts (shareOf 0) c (sent m 0 c) ∗ sumPts (shareOf 1) c (sent m 1 c) ∗ sumPts (shareOf 2) c (sent m 2 c)) := by
  rw [← sumPts_eq]; exact sum_split c (sum0 m c) 0 1 2 rfl rfl rfl
/-- of the second. -/
theorem lend1 (c : Dev nD) : (((c : Thread nD τ).loc cc0_scratch0) ↦{fullShare} sum1 m c : sProp 𝕄)
    ⊣⊢ iprop(sumPts (shareOf 3) c (sent m 3 c) ∗ sumPts (shareOf 4) c (sent m 4 c) ∗ sumPts (shareOf 5) c (sent m 5 c)) := by
  rw [← sumPts_eq]; exact sum_split c (sum1 m c) 3 4 5 rfl rfl rfl

/-! ## The debt along the body -/

def late2 (c : Dev nD) : CellTallies nD τ sig Unit := 0 + owR c 5
def late1 (c : Dev nD) : CellTallies nD τ sig Unit := late2 c + owR c 4
def copies2 (c : Dev nD) : CellTallies nD τ sig Unit := late c + owR c 2
def copies1 (c : Dev nD) : CellTallies nD τ sig Unit := copies2 c + owR c 1
def debt5 (c : Dev nD) : CellTallies nD τ sig Unit := copies c + owB c 5
def debt4 (c : Dev nD) : CellTallies nD τ sig Unit := debt5 c + owB c 4
def debt3 (c : Dev nD) : CellTallies nD τ sig Unit := debt4 c + owB c 3
def debt2 (c : Dev nD) : CellTallies nD τ sig Unit := debt3 c + owB c 2
def debt1 (c : Dev nD) : CellTallies nD τ sig Unit := debt2 c + owB c 1

omit [FloatOps F] in
/-- A signal hands over the slot. -/
theorem bar_slot (c : Dev nD) (k : Fin 6) : (barPay (F := F) c k : sProp 𝕄) ⊢ iprop(∃ f, slotPts (peer k c) k f) := by
  unfold barPay; iintro ⟨H, -⟩; iexact H

omit [FloatOps F] in
/-- What the six signals hand over, one by one. -/
theorem bar_pays (c : Dev nD) : (bigSep Finset.univ (barPay (F := F) c) : sProp 𝕄)
    = iprop(barPay c 0 ∗ barPay c 1 ∗ barPay c 2 ∗ barPay c 3 ∗ barPay c 4 ∗ barPay c 5) := six _

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop((known m K ∗ bigSep Finset.univ (link (F := F) c) ∗ atPos EX (barCell c) 0 ∅ 0
      ∗ cred (tallyAt (barCell c) () 6) ∗ (bigSep Finset.univ fun k => cred (tallyAt (recvCell c k) () N)) ∗ levAts L lv
      ∗ (∃ f, sumPts fullShare c f) ∗ ∃ f, bigSep Finset.univ fun k => slotPts c k f)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- What it ends with. -/
def bodyPost (c : Dev nD) : sProp 𝕄 :=
  iprop(Φ₁ m c ∗ (dats m ρ 0 c).owesAt () t₀.succ ∗ stg c cc0_stg0_0 (xin m c) ∗ stg c cc0_stg1_0 (tin m c)
    ∗ stg c cc0_stg2_0 (ain m c) ∗ stg c cc0_stg3_0 (bin m c) ∗ stg c cc0_stg4_0 (outAt m c))

/-- Owing nothing at the end, whatever has been waited for. -/
theorem owes_end (c : Dev nD) (W : Waits sig Unit) : (owes (c : Thread nD τ) 0 W : sProp 𝕄) ⊢ (dats m ρ 0 c).owesAt () t₀.succ := by
  unfold Dat.owesAt Pipeline.owesWithin
  rw [show (dats m ρ 0 c).owed t₀.succ = 0 from rfl]
  iintro HO
  iexists W
  isplitr; · ipureintro; exact fun _ _ => Or.inl trivial
  iexact HO

/-- The body as the launch calls it. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) cc0_scratch2 cc0_scratch3

set_option maxRecDepth 20000 in
set_option maxHeartbeats 4000000 in
/-- The body runs from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ (theBody (F := F)) Kt := by
  unfold theBody
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre
  rw [six (M := MT nD τ sig Unit (Elt F) ℕ UU ℕ) (link (F := F) c), six (M := MT nD τ sig Unit (Elt F) ℕ UU ℕ) fun k => cred (tallyAt (recvCell c k) () N)]
  simp only [six (M := MT nD τ sig Unit (Elt F) ℕ UU ℕ) fun k => slotPts c k _]
  unfold link
  iintro ⟨⟨⟨#HK, ⟨⟨HtB0, HtS0, HtR0, HaS0, HaR0⟩, ⟨HtB1, HtS1, HtR1, HaS1, HaR1⟩, ⟨HtB2, HtS2, HtR2, HaS2, HaR2⟩, ⟨HtB3, HtS3, HtR3, HaS3, HaR3⟩, ⟨HtB4, HtS4, HtR4, HaS4, HaR4⟩, ⟨HtB5, HtS5, HtR5, HaS5, HaR5⟩⟩, HaB, HcB, ⟨HcR0, HcR1, HcR2, HcR3, HcR4, HcR5⟩, #Hl, ⟨%f0, Hsum⟩, ⟨%fr, Hs0, Hs1, Hs2, Hs3, Hs4, Hs5⟩⟩,
    Ho, ⟨%d0, %g0, %hg0, Hx⟩, ⟨%d1, %g1, %hg1, Ht⟩, ⟨%d2, %g2, %hg2, Ha⟩, ⟨%d3, %g3, %hg3, Hb⟩, ⟨%d4, %g4, %hg4, Hout⟩⟩, Hk⟩
  have hx : g0 = xin m c := by rw [hg0]; unfold Dat.before; rw [if_pos (fetch0_0 t₀)]; rfl
  have ht : g1 = tin m c := by rw [hg1]; unfold Dat.before; rw [if_pos (fetch0_1 t₀)]; rfl
  have ha : g2 = ain m c := by rw [hg2]; unfold Dat.before; rw [if_pos (fetch0_2 t₀)]; rfl
  have hb : g3 = bin m c := by rw [hg3]; unfold Dat.before; rw [if_pos (fetch0_3 t₀)]; rfl
  subst hx ht ha hb
  clear hg0 hg1 hg2 hg3
  unfold Dat.owesAt Pipeline.owesWithin
  icases Ho with ⟨%W, %hW, HO⟩
  rw [show (dats m ρ 0 c).owed t₀.castSucc = debt c from rfl]
  iapply (step_signal m K c _ 0 (dev1_eq c) rfl (by decide) (O₀ := debt c) (debt1 c) rfl _) $$ [HO HtB0 Hs0]
  · isplitr; · iexact HK
    isplitl [HO]; · iexact HO
    isplitl [HtB0]; · iexact HtB0
    iexists fr; iexact Hs0
  iintro HO
  iapply (step_signal m K c _ 1 (dev2_eq c) rfl (by decide) (O₀ := debt1 c) (debt2 c) rfl _) $$ [HO HtB1 Hs1]
  · isplitr; · iexact HK
    isplitl [HO]; · iexact HO
    isplitl [HtB1]; · iexact HtB1
    iexists fr; iexact Hs1
  iintro HO
  iapply (step_signal m K c _ 2 (dev3_eq c) rfl (by decide) (O₀ := debt2 c) (debt3 c) rfl _) $$ [HO HtB2 Hs2]
  · isplitr; · iexact HK
    isplitl [HO]; · iexact HO
    isplitl [HtB2]; · iexact HtB2
    iexists fr; iexact Hs2
  iintro HO
  iapply (step_signal m K c _ 3 (dev4_eq c) rfl (by decide) (O₀ := debt3 c) (debt4 c) rfl _) $$ [HO HtB3 Hs3]
  · isplitr; · iexact HK
    isplitl [HO]; · iexact HO
    isplitl [HtB3]; · iexact HtB3
    iexists fr; iexact Hs3
  iintro HO
  iapply (step_signal m K c _ 4 (dev5_eq c) rfl (by decide) (O₀ := debt4 c) (debt5 c) rfl _) $$ [HO HtB4 Hs4]
  · isplitr; · iexact HK
    isplitl [HO]; · iexact HO
    isplitl [HtB4]; · iexact HtB4
    iexists fr; iexact Hs4
  iintro HO
  iapply (step_signal m K c _ 5 (dev6_eq c) rfl (by decide) (O₀ := debt5 c) (copies c) rfl _) $$ [HO HtB5 Hs5]
  · isplitr; · iexact HK
    isplitl [HO]; · iexact HO
    isplitl [HtB5]; · iexact HtB5
    iexists fr; iexact Hs5
  iintro HO
  iapply (wp_load 𝒱₀ (c : Thread nD τ) none Set.univ (m := xM) (Finset.subset_univ _)) $$ Hx; iintro Hx
  rw [readX]
  ihave Hsum := (Entails.of_eq (sumPts_eq fullShare c f0)) $$ Hsum
  iapply (wp_load 𝒱₀ (c : Thread nD τ) none Set.univ (m := sumM) (Finset.subset_univ _)) $$ Hsum; iintro Hsum
  iapply (wp_store 𝒱₀ (c : Thread nD τ) none Set.univ (m := sumM) (r := wS) (Mk := Finset.univ) (Finset.subset_univ _)) $$ Hsum; iintro Hsum
  rw [writeS]
  ihave Hsh := (lend0 m c).1 $$ [Hsum]; · iexact Hsum
  icases Hsh with ⟨Hq0, Hq1, Hq2⟩
  iapply (step_barrier m K c rfl (by decide) (copies c) (above_copies c) _) $$ [HcB HO HaB]
  · isplitr; · iexact HK
    isplitr; · iexact Hl
    isplitl [HcB]; · iexact HcB
    isplitl [HO]; · iexact HO
    iexact HaB
  iintro ⟨HO, HaB, Hp⟩
  ihave Hp := (Entails.of_eq (bar_pays (F := F) c)) $$ Hp
  icases Hp with ⟨Hn0, Hn1, Hn2, Hn3, Hn4, Hn5⟩
  iapply (step_send m K c _ 0 (dev7_eq c) send_eq0 recv_eq0 slot_eq0 (O₀ := copies c) (copies1 c) rfl _) $$ [Hq0 Hn0 HO HtS0 HtR0]
  · isplitr; · iexact HK
    isplitl [Hq0]; · iexact Hq0
    isplitl [Hn0]; · iapply (bar_slot c 0); iexact Hn0
    isplitl [HO]; · iexact HO
    isplitl [HtS0]; · iexact HtS0
    iexact HtR0
  iintro ⟨HcS0, HO⟩
  iapply (step_send m K c _ 1 (dev8_eq c) send_eq1 recv_eq1 slot_eq1 (O₀ := copies1 c) (copies2 c) rfl _) $$ [Hq1 Hn1 HO HtS1 HtR1]
  · isplitr; · iexact HK
    isplitl [Hq1]; · iexact Hq1
    isplitl [Hn1]; · iapply (bar_slot c 1); iexact Hn1
    isplitl [HO]; · iexact HO
    isplitl [HtS1]; · iexact HtS1
    iexact HtR1
  iintro ⟨HcS1, HO⟩
  iapply (step_send m K c _ 2 (dev9_eq c) send_eq2 recv_eq2 slot_eq2 (O₀ := copies2 c) (late c) rfl _) $$ [Hq2 Hn2 HO HtS2 HtR2]
  · isplitr; · iexact HK
    isplitl [Hq2]; · iexact Hq2
    isplitl [Hn2]; · iapply (bar_slot c 2); iexact Hn2
    isplitl [HO]; · iexact HO
    isplitl [HtS2]; · iexact HtS2
    iexact HtR2
  iintro ⟨HcS2, HO⟩
  iapply (wp_load 𝒱₀ (c : Thread nD τ) none Set.univ (m := tM) (Finset.subset_univ _)) $$ Ht; iintro Ht
  rw [readT]
  iapply (wp_load 𝒱₀ (c : Thread nD τ) none Set.univ (m := aM) (Finset.subset_univ _)) $$ Ha; iintro Ha
  rw [readA]
  iapply (wp_load 𝒱₀ (c : Thread nD τ) none Set.univ (m := tM) (Finset.subset_univ _)) $$ Ht; iintro Ht
  rw [readT]
  iapply (wp_load 𝒱₀ (c : Thread nD τ) none Set.univ (m := bM) (Finset.subset_univ _)) $$ Hb; iintro Hb
  rw [readB]
  iapply (step_sent m K c 0 send_eq0 (late c) ((above_late c).mono (by decide)) _) $$ [HcS0 HO HaS0]
  · isplitr; · iexact HK
    isplitr; · iexact Hl
    isplitl [HcS0]; · iexact HcS0
    isplitl [HO]; · iexact HO
    iexact HaS0
  iintro ⟨HO, HaS0, Hq0⟩
  iapply (step_recv m K c 0 recv_eq0 slot_eq0 (n := 2) (by decide) (late c) (above_late c) _) $$ [HcR0 HO HaR0]
  · isplitr; · iexact HK
    isplitr; · iexact Hl
    isplitl [HcR0]; · iexact HcR0
    isplitl [HO]; · iexact HO
    iexact HaR0
  iintro ⟨HO, HaR0, Hs0⟩
  iapply (step_sent m K c 1 send_eq1 (late c) ((above_late c).mono (by decide)) _) $$ [HcS1 HO HaS1]
  · isplitr; · iexact HK
    isplitr; · iexact Hl
    isplitl [HcS1]; · iexact HcS1
    isplitl [HO]; · iexact HO
    iexact HaS1
  iintro ⟨HO, HaS1, Hq1⟩
  iapply (step_recv m K c 1 recv_eq1 slot_eq1 (n := 2) (by decide) (late c) (above_late c) _) $$ [HcR1 HO HaR1]
  · isplitr; · iexact HK
    isplitr; · iexact Hl
    isplitl [HcR1]; · iexact HcR1
    isplitl [HO]; · iexact HO
    iexact HaR1
  iintro ⟨HO, HaR1, Hs1⟩
  iapply (step_sent m K c 2 send_eq2 (late c) ((above_late c).mono (by decide)) _) $$ [HcS2 HO HaS2]
  · isplitr; · iexact HK
    isplitr; · iexact Hl
    isplitl [HcS2]; · iexact HcS2
    isplitl [HO]; · iexact HO
    iexact HaS2
  iintro ⟨HO, HaS2, Hq2⟩
  iapply (step_recv m K c 2 recv_eq2 slot_eq2 (n := 2) (by decide) (late c) (above_late c) _) $$ [HcR2 HO HaR2]
  · isplitr; · iexact HK
    isplitr; · iexact Hl
    isplitl [HcR2]; · iexact HcR2
    isplitl [HO]; · iexact HO
    iexact HaR2
  iintro ⟨HO, HaR2, Hs2⟩
  ihave Hsum := (lend0 m c).2 $$ [Hq0 Hq1 Hq2]
  · isplitl [Hq0]; · iexact Hq0
    isplitl [Hq1]; · iexact Hq1
    iexact Hq2
  iapply (wp_load 𝒱₀ (c : Thread nD τ) none Set.univ (m := sumM) (Finset.subset_univ _)) $$ Hsum; iintro Hsum
  rw [readS]
  iapply (step_slot m c 0 rect_eq0) $$ Hs0; iintro Hs0
  iapply (step_slot m c 1 rect_eq1) $$ Hs1; iintro Hs1
  iapply (step_slot m c 2 rect_eq2) $$ Hs2; iintro Hs2
  iapply (wp_load 𝒱₀ (c : Thread nD τ) none Set.univ (m := sumM) (Finset.subset_univ _)) $$ Hsum; iintro Hsum
  iapply (wp_store 𝒱₀ (c : Thread nD τ) none Set.univ (m := sumM) (r := wS) (Mk := Finset.univ) (Finset.subset_univ _)) $$ Hsum; iintro Hsum
  rw [writeS, pay6_loads]
  ihave Hsh := (lend1 m c).1 $$ [Hsum]; · iexact Hsum
  icases Hsh with ⟨Hq3, Hq4, Hq5⟩
  iapply (step_send m K c _ 3 (dev10_eq c) send_eq3 recv_eq3 slot_eq3 (O₀ := late c) (late1 c) rfl _) $$ [Hq3 Hn3 HO HtS3 HtR3]
  · isplitr; · iexact HK
    isplitl [Hq3]; · iexact Hq3
    isplitl [Hn3]; · iapply (bar_slot c 3); iexact Hn3
    isplitl [HO]; · iexact HO
    isplitl [HtS3]; · iexact HtS3
    iexact HtR3
  iintro ⟨HcS3, HO⟩
  iapply (step_send m K c _ 4 (dev11_eq c) send_eq4 recv_eq4 slot_eq4 (O₀ := late1 c) (late2 c) rfl _) $$ [Hq4 Hn4 HO HtS4 HtR4]
  · isplitr; · iexact HK
    isplitl [Hq4]; · iexact Hq4
    isplitl [Hn4]; · iapply (bar_slot c 4); iexact Hn4
    isplitl [HO]; · iexact HO
    isplitl [HtS4]; · iexact HtS4
    iexact HtR4
  iintro ⟨HcS4, HO⟩
  iapply (step_send m K c _ 5 (dev12_eq c) send_eq5 recv_eq5 slot_eq5 (O₀ := late2 c) 0 rfl _) $$ [Hq5 Hn5 HO HtS5 HtR5]
  · isplitr; · iexact HK
    isplitl [Hq5]; · iexact Hq5
    isplitl [Hn5]; · iapply (bar_slot c 5); iexact Hn5
    isplitl [HO]; · iexact HO
    isplitl [HtS5]; · iexact HtS5
    iexact HtR5
  iintro ⟨HcS5, HO⟩
  iapply (step_sent m K c 3 send_eq3 0 (above_zero 0) _) $$ [HcS3 HO HaS3]
  · isplitr; · iexact HK
    isplitr; · iexact Hl
    isplitl [HcS3]; · iexact HcS3
    isplitl [HO]; · iexact HO
    iexact HaS3
  iintro ⟨HO, HaS3, Hq3⟩
  iapply (step_recv m K c 3 recv_eq3 slot_eq3 (n := 3) (by decide) 0 (above_zero 3) _) $$ [HcR3 HO HaR3]
  · isplitr; · iexact HK
    isplitr; · iexact Hl
    isplitl [HcR3]; · iexact HcR3
    isplitl [HO]; · iexact HO
    iexact HaR3
  iintro ⟨HO, HaR3, Hs3⟩
  iapply (step_sent m K c 4 send_eq4 0 (above_zero 0) _) $$ [HcS4 HO HaS4]
  · isplitr; · iexact HK
    isplitr; · iexact Hl
    isplitl [HcS4]; · iexact HcS4
    isplitl [HO]; · iexact HO
    iexact HaS4
  iintro ⟨HO, HaS4, Hq4⟩
  iapply (step_recv m K c 4 recv_eq4 slot_eq4 (n := 3) (by decide) 0 (above_zero 3) _) $$ [HcR4 HO HaR4]
  · isplitr; · iexact HK
    isplitr; · iexact Hl
    isplitl [HcR4]; · iexact HcR4
    isplitl [HO]; · iexact HO
    iexact HaR4
  iintro ⟨HO, HaR4, Hs4⟩
  iapply (step_sent m K c 5 send_eq5 0 (above_zero 0) _) $$ [HcS5 HO HaS5]
  · isplitr; · iexact HK
    isplitr; · iexact Hl
    isplitl [HcS5]; · iexact HcS5
    isplitl [HO]; · iexact HO
    iexact HaS5
  iintro ⟨HO, HaS5, Hq5⟩
  iapply (step_recv m K c 5 recv_eq5 slot_eq5 (n := 3) (by decide) 0 (above_zero 3) _) $$ [HcR5 HO HaR5]
  · isplitr; · iexact HK
    isplitr; · iexact Hl
    isplitl [HcR5]; · iexact HcR5
    isplitl [HO]; · iexact HO
    iexact HaR5
  iintro ⟨HO, HaR5, Hs5⟩
  ihave Hsum := (lend1 m c).2 $$ [Hq3 Hq4 Hq5]
  · isplitl [Hq3]; · iexact Hq3
    isplitl [Hq4]; · iexact Hq4
    iexact Hq5
  iapply (wp_load 𝒱₀ (c : Thread nD τ) none Set.univ (m := sumM) (Finset.subset_univ _)) $$ Hsum; iintro Hsum
  rw [readS]
  iapply (step_slot m c 3 rect_eq3) $$ Hs3; iintro Hs3
  iapply (step_slot m c 4 rect_eq4) $$ Hs4; iintro Hs4
  iapply (step_slot m c 5 rect_eq5) $$ Hs5; iintro Hs5
  iapply (wp_load 𝒱₀ (c : Thread nD τ) none Set.univ (m := sumM) (Finset.subset_univ _)) $$ Hsum; iintro Hsum
  iapply (wp_store 𝒱₀ (c : Thread nD τ) none Set.univ (m := sumM) (r := wS) (Mk := Finset.univ) (Finset.subset_univ _)) $$ Hsum; iintro Hsum
  rw [writeS, pay7_loads]
  iapply (wp_load 𝒱₀ (c : Thread nD τ) none Set.univ (m := sumM) (Finset.subset_univ _)) $$ Hsum; iintro Hsum
  rw [readS]
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := b0) (Mk := Finset.univ) (Finset.subset_univ _)) $$ Hout; iintro Hout
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := b1) (Mk := Finset.univ) (Finset.subset_univ _)) $$ Hout; iintro Hout
  imod (shut_bar m K c) $$ [HaB] with HzB
  · isplitr; · iexact HK
    iexact HaB
  imod (shut_sends m K c) $$ [HaS0 HaS1 HaS2 HaS3 HaS4 HaS5] with HzS
  · isplitr; · iexact HK
    rw [six (M := MT nD τ sig Unit (Elt F) ℕ UU ℕ) fun k => atPos EX (sendCell c k) 1 ∅ 0]
    isplitl [HaS0]; · iexact HaS0
    isplitl [HaS1]; · iexact HaS1
    isplitl [HaS2]; · iexact HaS2
    isplitl [HaS3]; · iexact HaS3
    isplitl [HaS4]; · iexact HaS4
    iexact HaS5
  imod (shut_recvs m K c) $$ [HaR0 HaR1 HaR2 HaR3 HaR4 HaR5] with HzR
  · isplitr; · iexact HK
    rw [six (M := MT nD τ sig Unit (Elt F) ℕ UU ℕ) fun k => atPos EX (recvCell c k) 1 ∅ 0]
    isplitl [HaR0]; · iexact HaR0
    isplitl [HaR1]; · iexact HaR1
    isplitl [HaR2]; · iexact HaR2
    isplitl [HaR3]; · iexact HaR3
    isplitl [HaR4]; · iexact HaR4
    iexact HaR5
  rw [wp_ret]; imodintro
  iapply Hk
  unfold bodyPost Φ₁
  rw [six (M := MT nD τ sig Unit (Elt F) ℕ UU ℕ) fun k => slotPts c k (landed m c)]
  isplitl [Hsum Hs0 Hs1 Hs2 Hs3 Hs4 Hs5 HzS HzR HzB]
  · isplitl [Hsum]; · rw [sumPts_eq]; iexact Hsum
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [HzS]; · iexact HzS
    isplitl [HzR]; · iexact HzR
    iexact HzB
  isplitl [HO]
  · iapply (owes_end m ρ c _); iexact HO
  isplitl [Hx]
  · iexists _; isplitr; · (ipureintro; rfl)
    iexact Hx
  isplitl [Ht]
  · iexists _; isplitr; · (ipureintro; rfl)
    iexact Ht
  isplitl [Ha]
  · iexists _; isplitr; · (ipureintro; rfl)
    iexact Ha
  isplitl [Hb]
  · iexists _; isplitr; · (ipureintro; rfl)
    iexact Hb
  iexists _; isplitr
  · ipureintro
    exact funext fun i => write_out g4 (out0 m c) (out1 m c) i
  iexact Hout

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the library hands the body. -/
def bodyPre' (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxRecDepth 4000 in
/-- The body meets its obligation on every device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, HK⟩, H1, H2, H3, H4, H5⟩, Hsum, Hslots⟩, Ho, Hx, Ht, Ha, Hb, Hout⟩
  iapply (sound_body m ρ K c fun _ => bodyPost m ρ c)
  unfold bodyPre
  isplitl
  · isplitl [HK H1 H2 H3 H4 H5 Hsum Hslots]
    · isplitl [HK]; · iexact HK
      isplitl [H1]; · iexact H1
      isplitl [H2]; · iexact H2
      isplitl [H3]; · iexact H3
      isplitl [H4]; · iexact H4
      isplitl [H5]; · iexact H5
      isplitl [Hsum]; · iexact Hsum
      iexact Hslots
    isplitl [Ho]; · iexact Ho
    isplitl [Hx]; · iexact Hx
    isplitl [Ht]; · iexact Ht
    isplitl [Ha]; · iexact Ha
    isplitl [Hb]; · iexact Hb
    iexact Hout
  · iintro H; iexact H

end Cert.KernelIdeal.Stats
-- ==== Proof.KernelIdeal.Launch.lean ====
/-
# The launch

The sixteen cores start with the tokens, positions and credits the plan asks for, run their bodies, and stop with all
counters at zero, the arguments unchanged and the computed block in each device's result array.
-/
module

public import proofs.«01_k».proof.Proof.KernelIdeal.Body
public import Idealize.ShloMosaic.Lib.Pipeline.CollectiveSegs

@[expose] public section

noncomputable section

namespace Cert.KernelIdeal.Stats

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens at launch -/

/-- The kernel's own semaphores: six for sending (`false`), six for receiving (`true`). -/
abbrev osem (x : Bool × Fin 6) : SemLoc sig := csem (some x)

theorem ownSemFacts : Pipeline.OwnSemFacts cfg0.spec osem := by decide

theorem csem_inj : Function.Injective csem := by decide

theorem kcell_inj : Function.Injective (kcell : CellIx → GSem nD τ sig) := fun x y h =>
  Prod.ext (congrArg (fun g : GSem nD τ sig => g.1.1) h) (csem_inj (congrArg Prod.snd h))
def allCells : Finset (GSem nD τ sig) := Finset.univ.map ⟨kcell, kcell_inj⟩

/-- The duty tokens of a device's own cells: the barrier's six, and one for each send and each receive cell. -/
abbrev tokOf (x : Dev nD × Option Bool × Fin 6) : GSem nD τ sig × ℕ × Fin 6 := match x with
  | (c, none, k) => (barCell c, 0, k)
  | (c, some false, k) => (sendCell c k, 0, 0)
  | (c, some true, k) => (recvCell c k, 0, 0)
theorem tokOf_inj : Function.Injective tokOf := by
  have hl : Function.Injective (fun y : Option Bool × Fin 6 => ((tokOf (0, y)).1.2, (tokOf (0, y)).2.2)) := by decide
  have hc : ∀ x, ((tokOf x).1.1.1 = x.1) ∧ ((tokOf x).1.2, (tokOf x).2.2) = ((tokOf (0, x.2)).1.2, (tokOf (0, x.2)).2.2) := by
    rintro ⟨c, _ | _ | _, k⟩ <;> exact ⟨rfl, rfl⟩
  intro x y h
  refine Prod.ext ?_ (hl ?_)
  · rw [← (hc x).1, ← (hc y).1, h]
  · show ((tokOf (0, x.2)).1.2, (tokOf (0, x.2)).2.2) = ((tokOf (0, y.2)).1.2, (tokOf (0, y.2)).2.2)
    rw [← (hc x).2, ← (hc y).2, h]
def allToks : Finset (GSem nD τ sig × ℕ × Fin 6) := Finset.univ.map ⟨tokOf, tokOf_inj⟩

def u₀ : UU := (initOf (Pipeline.cells cfgs cellOf_inj) (Pipeline.launchToks cfgs cellOf_inj), initOf allCells allToks)

omit [FloatOps F] in
/-- A device's thirteen cells: the barrier's, the sends', the receives'. -/
theorem thirteen (Φ : Option (Bool × Fin 6) → sProp 𝕄) : bigSep Finset.univ Φ
    = iprop(Φ none ∗ (bigSep Finset.univ fun k => Φ (some (false, k))) ∗ bigSep Finset.univ fun k => Φ (some (true, k))) := by
  rw [bigSep_univ_equiv (Equiv.optionEquivSumPUnit.{0, 0} (Bool × Fin 6)).symm, bigSep_univ_sum, bigSep_univ_prod,
    bigSep_univ_of_subsingleton PUnit.unit,
    bigSep_univ_eq_bigSepL [false, true] (by decide) (by decide)]
  exact BI.Entails.antisymm BI.sep_comm BI.sep_comm

omit [FloatOps F] in
theorem two (Φ : Bool → sProp 𝕄) : bigSep Finset.univ Φ = iprop(Φ false ∗ Φ true) :=
  bigSep_univ_eq_bigSepL [false, true] (by decide) (by decide) Φ
omit [FloatOps F] in
theorem three (Φ : Option Bool → sProp 𝕄) : bigSep Finset.univ Φ = iprop(Φ none ∗ Φ (some false) ∗ Φ (some true)) :=
  bigSep_univ_eq_bigSepL [none, some false, some true] (by decide) (by decide) Φ

/-- The tokens of device `c`'s own cells; -/
def ownToks (c : Dev nD) : sProp 𝕄 :=
  iprop((bigSep Finset.univ fun k => dutyTok EX (barCell c) 0 k) ∗ (bigSep Finset.univ fun k => dutyTok EX (sendCell c k) 0 0)
    ∗ bigSep Finset.univ fun k => dutyTok EX (recvCell c k) 0 0)
/-- the tokens of the duties `c` itself pays. -/
def payToks (c : Dev nD) : sProp 𝕄 :=
  iprop((bigSep Finset.univ fun k => dutyTok EX (barCell (peer k c)) 0 k) ∗ (bigSep Finset.univ fun k => dutyTok EX (sendCell c k) 0 0)
    ∗ bigSep Finset.univ fun k => dutyTok EX (recvCell (peer k c) k) 0 0)

/-- What the launch deals device `c`: its cells' states, positions and round marks, and its cells' tokens. -/
def dealt (c : Dev nD) : sProp 𝕄 :=
  iprop((bigSep Finset.univ fun s => roundState EX (plan m) (kcell (c, s)) 0)
    ∗ ((bigSep Finset.univ fun s => atPos EX (kcell (c, s)) 0 ∅ 0) ∗ (bigSep Finset.univ fun s => reached EX (kcell (c, s)) 0)) ∗ ownToks c)
/-- The same with invariants in place of states. -/
def founded (c : Dev nD) : sProp 𝕄 :=
  iprop((bigSep Finset.univ fun s => iprop(∃ κ : ℕ, cellInv EX (plan m) κ (kcell (c, s))))
    ∗ ((bigSep Finset.univ fun s => atPos EX (kcell (c, s)) 0 ∅ 0) ∗ (bigSep Finset.univ fun s => reached EX (kcell (c, s)) 0)) ∗ ownToks c)
/-- What device `c` keeps for itself. -/
def kept (c : Dev nD) : sProp 𝕄 := iprop(bigSep Finset.univ (link (F := F) c) ∗ atPos EX (barCell c) 0 ∅ 0)
/-- What it starts from, besides credits and levels. -/
def ready (c : Dev nD) : sProp 𝕄 := iprop((∃ K, known m K) ∗ kept c)

theorem cells_by_device (Φ : GSem nD τ sig → sProp 𝕄) :
    bigSep allCells Φ = bigSep Finset.univ fun c : Dev nD => bigSep Finset.univ fun s => Φ (kcell (c, s)) := by
  unfold allCells; rw [bigSep_map, bigSep_univ_prod]; rfl
omit [FloatOps F] in
theorem toks_by_device : bigSep allToks (fun x => (dutyTok EX x.1 x.2.1 x.2.2 : sProp 𝕄)) = bigSep Finset.univ fun c : Dev nD => ownToks c := by
  unfold allToks; rw [bigSep_map, bigSep_univ_prod]
  exact bigSep_congr fun c _ => by rw [bigSep_univ_prod, three]; rfl

/-- The launch element funds every device. -/
theorem funded : BI.own (EX (initOf allCells allToks)) ⊢ (|==> bigSep Finset.univ (dealt m) : sProp 𝕄) := by
  iintro HX
  imod (Rounds.fund EX (plan m) allCells allToks) $$ HX with ⟨Hst, Hr, Hat, Htok⟩
  imodintro
  ihave Hst := (Entails.of_eq (cells_by_device fun g => roundState EX (plan m) g 0)) $$ Hst
  ihave Hat := (Entails.of_eq (cells_by_device (F := F) fun g => atPos EX g 0 ∅ 0)) $$ Hat
  ihave Hr := (Entails.of_eq (cells_by_device (F := F) fun g => reached EX g 0)) $$ Hr
  ihave Htok := (Entails.of_eq (toks_by_device (F := F))) $$ Htok
  unfold dealt; simp only [bigSep_sep']
  isplitl [Hst]; · iexact Hst
  isplitl [Hat Hr]
  · isplitl [Hat]; · iexact Hat
    iexact Hr
  iexact Htok

omit [FloatOps F] in
/-- The kernel's own counters are its send and receive cells; -/
theorem ownSems_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0; rw [bigSep_univ_prod, two]
omit [FloatOps F] in
/-- the barrier's is the one that outlives the launch. -/
theorem freeSems_eq (c : Dev nD) : (unscopedSems0 c : sProp 𝕄) = semVal (barCell c) 0 := by
  unfold unscopedSems0; rw [bigSep_eq_bigSepL_of_eq [SemLoc.reg barS] (by decide) (by decide)]; rfl

/-- One device's cells founded. -/
theorem found (c : Dev nD) :
    iprop(Pipeline.ownSems0 (Ix := Unit) (Name := ℕ) (U := UU) (Lvl := ℕ) (Val := Elt F) (τ := τ) osem c ∗ unscopedSems0 c ∗ dealt m c)
      ⊢ |={Set.univ}=> founded m c := by
  have alloc : iprop((bigSep Finset.univ fun s => semVal (kcell (c, s)) 0) ∗ bigSep Finset.univ fun s => roundState EX (plan m) (kcell (c, s)) 0)
      ⊢ (|={Set.univ}=> bigSep Finset.univ fun s => iprop(∃ κ : ℕ, cellInv EX (plan m) κ (kcell (c, s))) : sProp 𝕄) := by
    rw [← bigSep_sep']
    exact (bigSep_mono fun s _ => (Rounds.body_intro EX (plan m) (kcell (c, s))).trans inv_alloc).trans (bigSep_fupd _ _)
  rw [ownSems_eq, freeSems_eq]
  unfold dealt founded
  iintro ⟨⟨HS, HR⟩, HB, Hst, Hrest⟩
  imod alloc $$ [HS HR HB Hst] with Hinv
  · isplitl [HS HR HB]
    · rw [thirteen]
      isplitl [HB]; · iexact HB
      isplitl [HS]; · iexact HS
      iexact HR
    iexact Hst
  imodintro
  isplitl [Hinv]; · iexact Hinv
  iexact Hrest

/-- Swapping a device with its `k`-th partner, for all `k` at once. -/
def pairAll : Dev nD × Fin 6 ≃ Dev nD × Fin 6 :=
  ⟨fun x => (peer x.2 x.1, x.2), fun x => (peer x.2 x.1, x.2), fun x => Prod.ext (peer_peer x.2 x.1) rfl, fun x => Prod.ext (peer_peer x.2 x.1) rfl⟩

omit [FloatOps F] in
/-- Anything every device has for each `k` may be exchanged with its partners. -/
theorem exchange (Φ : Dev nD → Fin 6 → sProp 𝕄) : (bigSep Finset.univ fun c => bigSep Finset.univ fun k => Φ c k)
    = bigSep Finset.univ fun c => bigSep Finset.univ fun k => Φ (peer k c) k := by
  rw [← bigSep_univ_prod (fun x : Dev nD × Fin 6 => Φ x.1 x.2), bigSep_univ_equiv pairAll, bigSep_univ_prod]; rfl

omit [FloatOps F] in
/-- The tokens go to the devices that pay them. -/
theorem toks_dealt : (bigSep Finset.univ fun c : Dev nD => (ownToks c : sProp 𝕄)) = bigSep Finset.univ fun c : Dev nD => payToks c := by
  unfold ownToks payToks
  rw [bigSep_sep', bigSep_sep', bigSep_sep', bigSep_sep', exchange (F := F) fun c k => dutyTok EX (barCell c) 0 k,
    exchange (F := F) fun c k => dutyTok EX (recvCell c k) 0 0]

omit [FloatOps F] in
theorem kept_intro (c : Dev nD) : iprop((bigSep Finset.univ fun s => atPos EX (kcell (c, s)) 0 ∅ 0) ∗ payToks c) ⊢ (kept c : sProp 𝕄) := by
  unfold payToks kept link
  simp only [bigSep_sep']
  rw [thirteen]
  iintro ⟨⟨HaB, HaS, HaR⟩, HtB, HtS, HtR⟩
  isplitr [HaB]
  · isplitl [HtB]; · iexact HtB
    isplitl [HtS]; · iexact HtS
    isplitl [HtR]; · iexact HtR
    isplitl [HaS]; · iexact HaS
    iexact HaR
  iexact HaB

theorem ready_intro (K : CellIx → ℕ) (c : Dev nD) : iprop(known m K ∗ kept c) ⊢ ready m c := by
  unfold ready
  iintro ⟨HK, Hk⟩
  isplitl [HK]
  · iexists K; iexact HK
  iexact Hk

/-- The names gathered and every device made ready. -/
theorem regroup : bigSep Finset.univ (founded m) ⊢ bigSep Finset.univ (ready m) := by
  unfold founded
  simp only [bigSep_sep']
  rw [← bigSep_univ_prod (fun x : CellIx => iprop(∃ κ : ℕ, cellInv EX (plan m) κ (kcell x))),
    ← bigSep_univ_prod (fun x : CellIx => (reached EX (kcell x) 0 : sProp 𝕄)), toks_dealt]
  iintro ⟨HI, ⟨Hat, #HR⟩, Htok⟩
  ihave HK := (BI.bigSep_exists_pi Finset.univ (fun (x : CellIx) (κ : ℕ) => (cellInv EX (plan m) κ (kcell x) : sProp 𝕄))) $$ HI
  icases HK with ⟨%K, #HI⟩
  iapply ((sep_mono_left (BI.bigSep_of_persistent Finset.univ (known m K))).trans
    (show _ ⊢ bigSep Finset.univ (ready m) by
      rw [← bigSep_sep' Finset.univ (fun _ => known m K) kept]
      exact bigSep_mono fun c _ => ready_intro m K c))
  isplitr
  · unfold known
    isplitl; · iexact HI
    iexact HR
  iapply (show iprop((bigSep Finset.univ fun c : Dev nD => bigSep Finset.univ fun s => (atPos EX (kcell (c, s)) 0 ∅ 0 : sProp 𝕄))
      ∗ bigSep Finset.univ fun c : Dev nD => payToks c) ⊢ bigSep Finset.univ kept by
    rw [← bigSep_sep']; exact bigSep_mono fun c _ => kept_intro c)
  isplitl [Hat]; · iexact Hat
  iexact Htok

/-- All devices made ready at once. -/
theorem together : (bigSep Finset.univ fun c => iprop(Pipeline.ownSems0 (Ix := Unit) (Name := ℕ) (U := UU) (Lvl := ℕ) (Val := Elt F) (τ := τ) osem c
      ∗ unscopedSems0 c ∗ dealt m c) : sProp 𝕄)
    ⊢ |={Set.univ}=> bigSep Finset.univ (ready m) :=
  ((bigSep_mono fun c _ => found m c).trans (bigSep_fupd _ _)).trans (BI.fupd_mono (regroup m))

/-! ## Credit at launch -/

theorem barCell_iff (a b : Dev nD) : barCell a = barCell b ↔ a = b :=
  ⟨fun h => congrArg (fun g : GSem nD τ sig => g.1.1) h, fun h => h ▸ rfl⟩
theorem recvCell_iff (a b : Dev nD) (k k' : Fin 6) : recvCell a k = recvCell b k' ↔ a = b ∧ k = k' :=
  ⟨fun h => ⟨congrArg (fun g : GSem nD τ sig => g.1.1) h,
      by have e := csem_inj (a₁ := some (true, k)) (a₂ := some (true, k')) (congrArg Prod.snd h); simpa using e⟩, fun h => by rw [h.1, h.2]⟩
theorem bar_ne_recv (a b : Dev nD) (k : Fin 6) : barCell a ≠ recvCell b k := fun h => by cases congrArg Prod.snd h
theorem peer_iff (k : Fin 6) (c d : Dev nD) : c = peer k d ↔ d = peer k c :=
  ⟨fun h => by rw [h, peer_peer], fun h => by rw [h, peer_peer]⟩

theorem owB_bar (d c : Dev nD) (k : Fin 6) : owB d k (barCell c) () = if d = peer k c then 1 else 0 := by
  rw [tallyAt_apply]; refine if_congr ?_ rfl rfl
  rw [barCell_iff, peer_iff]; exact and_iff_left rfl
theorem owR_bar (d c : Dev nD) (k : Fin 6) : owR d k (barCell c) () = 0 := by
  rw [tallyAt_apply, if_neg fun h => bar_ne_recv _ _ _ h.1]
theorem owB_recv (d c : Dev nD) (k k' : Fin 6) : owB d k (recvCell c k') () = 0 := by
  rw [tallyAt_apply, if_neg fun h => bar_ne_recv _ _ _ h.1.symm]
theorem owR_recv (d c : Dev nD) (k k' : Fin 6) : owR d k (recvCell c k') () = if k' = k ∧ d = peer k' c then N else 0 := by
  rw [tallyAt_apply]; refine if_congr ?_ rfl rfl
  rw [recvCell_iff]
  constructor
  · rintro ⟨⟨h, rfl⟩, -⟩; exact ⟨rfl, (peer_iff _ _ _).1 h⟩
  · rintro ⟨rfl, h⟩; exact ⟨⟨(peer_iff _ _ _).2 h, rfl⟩, rfl⟩

theorem debt_apply (d : Dev nD) (g : GSem nD τ sig) : debt d g () = 0 + owR d 5 g () + owR d 4 g () + owR d 3 g () + owR d 2 g () + owR d 1 g ()
    + owR d 0 g () + owB d 5 g () + owB d 4 g () + owB d 3 g () + owB d 2 g () + owB d 1 g () + owB d 0 g () := rfl

/-- Every device owes each partner's barrier one unit; -/
theorem debt_bar (d c : Dev nD) : debt d (barCell c) () = ∑ k, if d = peer k c then 1 else 0 := by
  rw [debt_apply, owR_bar, owR_bar, owR_bar, owR_bar, owR_bar, owR_bar, owB_bar, owB_bar, owB_bar, owB_bar, owB_bar, owB_bar, Fin.sum_univ_six]
  omega
/-- and each partner's receive cell one block. -/
theorem debt_recv (d c : Dev nD) (k : Fin 6) : debt d (recvCell c k) () = if d = peer k c then N else 0 := by
  rw [debt_apply, owR_recv, owR_recv, owR_recv, owR_recv, owR_recv, owR_recv, owB_recv, owB_recv, owB_recv, owB_recv, owB_recv, owB_recv]
  generalize N = n
  fin_cases k <;> simp

theorem credit_bar (c : Dev nD) :
    tallyOn (barCell c) (launchCredit (Pipeline.owing debt) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => debt_bar d c, Finset.sum_comm,
    Finset.sum_congr rfl fun k _ => (Finset.sum_ite_eq' Finset.univ (peer k c) fun _ => 1).trans (if_pos (Finset.mem_univ _))]
  rfl
theorem credit_recv (c : Dev nD) (k : Fin 6) :
    tallyOn (recvCell c k) (launchCredit (Pipeline.owing debt) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => debt_recv d c k,
    Finset.sum_ite_eq' Finset.univ (peer k c) fun _ => N, if_pos (Finset.mem_univ _)]

def recvLocs : Finset (SemLoc sig) := Finset.univ.map ⟨fun k => csem (some (true, k)), fun k k' h => by simpa using csem_inj h⟩

omit [FloatOps F] in
/-- So a device is credited six units at its barrier and a block at each receive cell. -/
theorem credits (c : Dev nD) : (Pipeline.launchCred debt c : sProp 𝕄)
    ⊢ iprop(cred (tallyAt (barCell c) () 6) ∗ bigSep Finset.univ fun k => cred (tallyAt (recvCell c k) () N)) := by
  unfold Pipeline.launchCred
  rw [bigSep_univ_at _ (SemLoc.reg barS), credit_bar]
  refine sep_mono_right ((bigSep_subset (t := recvLocs) (by decide)).trans ?_)
  unfold recvLocs
  rw [bigSep_map]
  exact bigSep_mono fun k _ => Entails.of_eq (congrArg cred (credit_recv c k))

/-! ## The launch's side conditions -/

theorem start_intro (c : Dev nD) :
    iprop(Pipeline.unscopedRestP Pipeline.Prefetch.none cfg0.spec c (fun b => m ((c : Thread nD τ).loc b)) ∗ levAts L lv
        ∗ Pipeline.launchCred debt c ∗ prngReg c (ρ c) ∗ ready m c)
      ⊢ |={Set.univ}=> iprop(start m c ∗ emp) := by
  unfold start ready kept
  iintro ⟨-, Hl, Hcr, -, HK, Hlink, HaB⟩
  ihave Hc := (credits (F := F) c) $$ Hcr
  icases Hc with ⟨HcB, HcR⟩
  imodintro
  isplitl
  · isplitl [HK]; · iexact HK
    isplitl [Hlink]; · iexact Hlink
    isplitl [HaB]; · iexact HaB
    isplitl [HcB]; · iexact HcB
    isplitl [HcR]; · iexact HcR
    iexact Hl
  iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hf⟩, ⟨%g, Hg⟩⟩
  isplitl [Hs]; · iexact Hs
  isplitl [Hf]
  · iexists f; rw [sumPts_eq]; iexact Hf
  iexists g; rw [← slots_eq]; iexact Hg

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems_eq, freeSems_eq]
  unfold Φ₁
  iintro ⟨Hf, Hg, HzS, HzR, HzB⟩
  isplitl [HzB]; · iexact HzB
  isplitl [HzS HzR]
  · isplitl [HzS]; · iexact HzS
    iexact HzR
  isplitl [Hf]
  · iexists (sum2 m c); rw [← sumPts_eq]; iexact Hf
  iexists (landed m c); rw [slots_eq]; iexact Hg

theorem staging_waits (c : Dev nD) : (levAts L lv : sProp 𝕄) ⊢ Pipeline.cellsWaits cfgs (dats m ρ) () 0 c :=
  Pipeline.cellsWaits_intro cfgs (dats m ρ) () 0 c fun w s t =>
    mayWait (n := 0) c _ (by fin_cases w <;> fin_cases s <;> decide) _ (by
      rcases t with ⟨_ | _, ht⟩
      · exact above_debt c
      · exact above_zero 0)

theorem full_share (c : Dev nD) (w : Fin cfg0.W) : (dats m ρ 0 c).share w = fullShare := by unfold Dat.share; split <;> rfl

/-! ## The run -/

/-- The arrays after the run. -/
def final (c : Dev nD) (w : Fin cfg0.W) : Buf (Elt F) ((cfg0.win w).arr.view.loc (c : Thread nD τ)) := (dats m ρ 0 c).arrAt w cfg0.N

def Ends (r : PUnit × MemSt nD τ sig (Elt F)) : Prop :=
  ∀ c : Dev nD, ∀ w : Fin cfg0.W, r.2.mem ((cfg0.win w).arr.view.loc (c : Thread nD τ)) = final m ρ c w

set_option maxRecDepth 8000 in
/-- From any memory with zero counters every weakly fair run of the sixteen devices ends with every array as computed and
    every counter at zero. -/
theorem run : θ_run defs (onTc (τ := τ) (main (F := F))) (start₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := full_share m ρ)
    (hdistinct := winFacts0.arr_inj)
    (O₀ := debt) (howed₀ := fun _ => rfl) (howedN := fun _ => rfl)
    (L := L) (lv := lv) (hL := L_of_ne) (hwaits := staging_waits m ρ)
    (G := dealt m) (G' := ready m) (u₀ := u₀)
    (hu₀ := by
      unfold u₀
      iintro Hu
      ihave H := (ownU_pair _ _) $$ Hu
      icases H with ⟨HP, HX⟩
      imod (funded m) $$ HX with HG
      imodintro
      isplitl [HP]; · iexact HP
      iexact HG)
    (hglob := together m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The four argument arrays are left as they were; -/
theorem final_arg (c : Dev nD) (w : Fin cfg0.W) (h : (cfg0.win w).isOut = false) :
    final m ρ c w = m ((cfg0.win w).arr.view.loc (c : Thread nD τ)) := (dats m ρ 0 c).arrAt_in w h _

theorem at_origin (n : ℕ) : 0 + 1 * n = n := by omega

theorem blk_x (i : S2x4096x512.Idx) : (win0_0.blk (0 : Fin 1)).view.emb i = i := funext fun a => by
  fin_cases a <;> exact Fin.ext (at_origin _)
theorem blk_t (i : S2x128.Idx) : (win0_1.blk (0 : Fin 1)).view.emb i = i := funext fun a => by
  fin_cases a <;> exact Fin.ext (at_origin _)
theorem blk_a (i : S128x512.Idx) : (win0_2.blk (0 : Fin 1)).view.emb i = i := funext fun a => by
  fin_cases a <;> exact Fin.ext (at_origin _)
theorem blk_b (i : S128x512.Idx) : (win0_3.blk (0 : Fin 1)).view.emb i = i := funext fun a => by
  fin_cases a <;> exact Fin.ext (at_origin _)
theorem blk_o (i : S2x4096x512.Idx) : (win0_4.blk (0 : Fin 1)).view.emb i = i := funext fun a => by
  fin_cases a <;> exact Fin.ext (at_origin _)

/-- The staged blocks are the argument arrays; -/
theorem xin_eq (c : Dev nD) : xin m c = m ((c : Thread nD τ).loc main_arg0) := funext fun i => congrArg (m ((c : Thread nD τ).loc main_arg0)) (blk_x i)
theorem tin_eq (c : Dev nD) : tin m c = m ((c : Thread nD τ).loc main_arg1) := funext fun i => congrArg (m ((c : Thread nD τ).loc main_arg1)) (blk_t i)
theorem ain_eq (c : Dev nD) : ain m c = m ((c : Thread nD τ).loc main_arg2) := funext fun i => congrArg (m ((c : Thread nD τ).loc main_arg2)) (blk_a i)
theorem bin_eq (c : Dev nD) : bin m c = m ((c : Thread nD τ).loc main_arg3) := funext fun i => congrArg (m ((c : Thread nD τ).loc main_arg3)) (blk_b i)

/-- the result array ends with the computed block. -/
theorem final_out (c : Dev nD) : final m ρ c 4 = outAt m c :=
  (dats m ρ 0 c).arrAt_eq_of_cover 4 (outAt m c)
    (fun t _ => by
      obtain rfl := fin_N t
      exact funext fun i => congrArg (outAt m c) (blk_o i).symm)
    (fun i => ⟨t₀, flush0_4 t₀, by
      have h := ((cfg0.win 4).blk t₀).view.emb_mem_set i
      rwa [show ((cfg0.win 4).blk t₀).view.emb i = i from blk_o i] at h⟩)

/-- The run with its arrays by name. -/
theorem run_named (g : Dev nD → PrngReg) : θ_run (defs (F := F)) (onTc (τ := τ) (main (F := F))) ⟨m, fun _ => 0, g⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) := by
  refine (θ_run _ _ _).mono ?_ (run m g)
  rintro r ⟨h, hs⟩
  exact ⟨fun c => ⟨(h c 4).trans (final_out m g c), (h c 0).trans (final_arg m g c 0 rfl), (h c 1).trans (final_arg m g c 1 rfl),
    (h c 2).trans (final_arg m g c 2 rfl), (h c 3).trans (final_arg m g c 3 rfl)⟩, hs⟩

end Cert.KernelIdeal.Stats
-- ==== Proof.Value.Stat.lean ====
/-
# The exchanged sums, read as numbers

The block a device exchanges holds the row sums and the row sums of squares of its own channels. After two rounds it
holds, at every place, the sum of all sixteen devices' blocks.
-/
module

public import proofs.«01_k».proof.Proof.KernelIdeal.Plan
public import Idealize.ShloMosaic.Lib.Pointwise

@[expose] public section

set_option maxRecDepth 16384

noncomputable section

namespace Cert.KernelIdeal.Stats

open Idealize.ShloMosaic Cert.KernelIdeal Cert.KernelIdeal.Gen

/-- Reading the exchanged block as two columns again undoes the packing: column 0 holds the sums of the rows. -/
theorem col_sum (v : FVec Ideal S2x4096x512 .f32) (t : Fin 8192) :
    k0_pay8 (F := Ideal) (k0_pay3 (F := Ideal) (k0_pay2 (F := Ideal) v)) (ix2 t 0)
      = ∑ k : Fin 512, v (ix3 (⟨t.val / 4096, by omega⟩ : Fin 2) (⟨t.val % 4096, by omega⟩ : Fin 4096) k) := by
  pointwise [k0_pay8, k0_pay3, k0_pay2]

/-- Column 1 holds the sums of the squares of the rows. -/
theorem col_sq (v : FVec Ideal S2x4096x512 .f32) (t : Fin 8192) :
    k0_pay8 (F := Ideal) (k0_pay3 (F := Ideal) (k0_pay2 (F := Ideal) v)) (ix2 t 1)
      = ∑ k : Fin 512, v (ix3 (⟨t.val / 4096, by omega⟩ : Fin 2) (⟨t.val % 4096, by omega⟩ : Fin 4096) k)
          * v (ix3 (⟨t.val / 4096, by omega⟩ : Fin 2) (⟨t.val % 4096, by omega⟩ : Fin 4096) k) := by
  pointwise [k0_pay8, k0_pay3, k0_pay2]

/-- Reading the columns of a sum of four blocks adds the four readings. -/
theorem pay8_add4 (u v w z : FVec Ideal S128x128 .f32) (i : S8192x2.Idx) :
    k0_pay8 (F := Ideal) (add4 u v w z) i
      = k0_pay8 (F := Ideal) u i + k0_pay8 (F := Ideal) v i + k0_pay8 (F := Ideal) w i + k0_pay8 (F := Ideal) z i := rfl

/-- First-round sources: the device itself and its partners `xor 1, 2, 3`. -/
def hop : Fin 4 → Dev nD → Dev nD := ![id, peer 0, peer 1, peer 2]
/-- Second-round sources: the device itself and its partners `xor 4, 8, 12`. -/
def leap : Fin 4 → Dev nD → Dev nD := ![id, peer 3, peer 4, peer 5]
/-- The two rounds together reach every one of the sixteen devices exactly once. -/
theorem cover : ∀ c : Dev nD, Function.Bijective fun p : Fin 4 × Fin 4 => hop p.2 (leap p.1 c) := by decide

/-- After both rounds a device's columns hold the sums of all sixteen devices' columns. -/
theorem all_sum (m : (ℓ : Loc nD τ sig) → Buf (Elt Ideal) ℓ) (c : Dev nD) (i : S8192x2.Idx) :
    k0_pay8 (F := Ideal) (sum2 m c) i = ∑ d : Dev nD, k0_pay8 (F := Ideal) (sum0 m d) i := by
  rw [← Function.Bijective.sum_comp (cover c), Fintype.sum_prod_type]
  simp only [Fin.sum_univ_four]
  rfl

end Cert.KernelIdeal.Stats

end
-- ==== Proof.Value.Element.lean ====
/-
# One element of the result

Each batch entry of the result is stored by its own statement. Both compute the same expression `element`.
-/
module

public import proofs.«01_k».proof.Proof.Value.Stat

@[expose] public section

set_option maxRecDepth 16384

noncomputable section

namespace Cert.KernelIdeal.Stats

open Idealize.ShloMosaic Cert.KernelIdeal Cert.KernelIdeal.Gen

/-- One element of the result, from the element of `x`, the row's two sums, and the scale and the shift of its channel. -/
def element (x s q g h : EReal) : EReal :=
  (x - Ideal.div s (Ideal.ofBits .f32 0x46000000#32))
    * Ideal.rsqrt (Ideal.div q (Ideal.ofBits .f32 0x46000000#32)
        - Ideal.div s (Ideal.ofBits .f32 0x46000000#32) * Ideal.div s (Ideal.ofBits .f32 0x46000000#32)
        + Ideal.ofBits .f32 0x3727C5AC#32) * (1 + g) + h

/-- The block stored for batch entry 0, at row `s` and channel `l`. -/
theorem half0 (a b : FVec Ideal S2x512 .f32) (w : FVec Ideal S128x128 .f32) (x : FVec Ideal S1x4096x512 .f32)
    (s : Fin 4096) (l : Fin 512) :
    k0_pay13 (F := Ideal) a b (k0_pay8 (F := Ideal) w) (k0_pay9 (F := Ideal) w) (k0_pay10 (F := Ideal)) x (ix3 0 s l)
      = element (x (ix3 0 s l)) (k0_pay8 (F := Ideal) w (ix2 (⟨s.val, by omega⟩ : Fin 8192) 0))
          (k0_pay8 (F := Ideal) w (ix2 (⟨s.val, by omega⟩ : Fin 8192) 1)) (a (ix2 0 l)) (b (ix2 0 l)) := by
  pointwise [k0_pay13, k0_pay9, k0_pay10, k0_pay11, k0_pay12, element]

/-- The block stored for batch entry 1, at row `s` and channel `l`. -/
theorem half1 (a b : FVec Ideal S2x512 .f32) (w : FVec Ideal S128x128 .f32) (x : FVec Ideal S1x4096x512 .f32)
    (s : Fin 4096) (l : Fin 512) :
    k0_pay1 (F := Ideal) (k0_pay14 (F := Ideal) (k0_pay9 (F := Ideal) w) (k0_pay10 (F := Ideal)))
        (k0_pay15 (F := Ideal) (k0_pay8 (F := Ideal) w) (k0_pay9 (F := Ideal) w) (k0_pay10 (F := Ideal)))
        (k0_pay16 (F := Ideal) a) (k0_pay17 (F := Ideal) b) (k0_pay18 (F := Ideal) x) (ix3 0 s l)
      = element (x (ix3 0 s l)) (k0_pay8 (F := Ideal) w (ix2 (⟨4096 + s.val, by omega⟩ : Fin 8192) 0))
          (k0_pay8 (F := Ideal) w (ix2 (⟨4096 + s.val, by omega⟩ : Fin 8192) 1)) (a (ix2 1 l)) (b (ix2 1 l)) := by
  pointwise [k0_pay1, k0_pay14, k0_pay15, k0_pay16, k0_pay17, k0_pay18, k0_pay9, k0_pay10, k0_pay11, k0_pay12, element]

/-- The scale of batch entry `b` and channel `l` is the product of a row of `t_emb` and a column of `W_scale`. -/
theorem scale_elt (t : FVec Ideal S2x128 .f32) (w : FVec Ideal S128x512 .f32) (b : Fin 2) (l : Fin 512) :
    k0_pay4 (F := Ideal) t w (ix2 b l) = ∑ k : Fin 128, t (ix2 b k) * w (ix2 k l) := by
  pointwise [k0_pay4]

/-- The shift likewise, with `W_shift`. -/
theorem shift_elt (t : FVec Ideal S2x128 .f32) (w : FVec Ideal S128x512 .f32) (b : Fin 2) (l : Fin 512) :
    k0_pay5 (F := Ideal) t w (ix2 b l) = ∑ k : Fin 128, t (ix2 b k) * w (ix2 k l) := by
  pointwise [k0_pay5]

/-- The first load of `x` reads batch entry 0. -/
theorem load0 (x : FVec Ideal S2x4096x512 .f32) (s : Fin 4096) (l : Fin 512) :
    xM.view.readAt (Elt Ideal) b0.toLoadRect x (ix3 0 s l) = x (ix3 0 s l) := by
  show x _ = x _
  congr 1
  funext a
  apply Fin.ext
  match a with
  | ⟨0, _⟩ => rfl
  | ⟨1, _⟩ => show 0 + 1 * s.val = s.val; omega
  | ⟨2, _⟩ => show 0 + 1 * l.val = l.val; omega

/-- The second load of `x` reads batch entry 1. -/
theorem load1 (x : FVec Ideal S2x4096x512 .f32) (s : Fin 4096) (l : Fin 512) :
    xM.view.readAt (Elt Ideal) b1.toLoadRect x (ix3 0 s l) = x (ix3 1 s l) := by
  show x _ = x _
  congr 1
  funext a
  apply Fin.ext
  match a with
  | ⟨0, _⟩ => rfl
  | ⟨1, _⟩ => show 0 + 1 * s.val = s.val; omega
  | ⟨2, _⟩ => show 0 + 1 * l.val = l.val; omega

end Cert.KernelIdeal.Stats

end
-- ==== Proof.Value.Algebra.lean ====
/-
  The two statistics of a row over the extended reals: for a row of finite numbers, the mean of the squares less the square of
  the mean is the mean squared deviation from the mean, and the product with its reciprocal root is the quotient by its root.
-/
module

public import Idealize.ShloMosaic.PureOps
public import Idealize.ShloMosaic.PureOps.Ideal.Laws
public import Idealize.ShloMosaic.Lib.IdealHost

@[expose] public section

noncomputable section

namespace Cert.RowNorm

open Idealize.ShloMosaic

/-- The row length as a float word. -/
theorem word_len : Ideal.ofBits .f32 0x46000000#32 = ((8192 : ℝ) : EReal) := by
  simp [Ideal.ofBits, Ideal.ieee]; rw [← EReal.coe_mul]; norm_num

/-- The stabiliser as a float word, a positive real. -/
theorem word_eps : ∃ e : ℝ, 0 < e ∧ Ideal.ofBits .f32 0x3727C5AC#32 = (e : EReal) := by
  refine ⟨_, ?_, by simp only [Ideal.ofBits, Ideal.ieee]; rfl⟩
  rw [if_neg (by decide)]
  positivity

/-- A finite extended-real sum of reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: mean of squares less square of mean is mean squared deviation. -/
theorem real_variance (f : Fin 8192 → ℝ) :
    (∑ k, f k * f k) * (1 / 8192) - (∑ k, f k) * (1 / 8192) * ((∑ k, f k) * (1 / 8192))
      = (∑ k, (f k - (∑ j, f j) * (1 / 8192)) * (f k - (∑ j, f j) * (1 / 8192))) * (1 / 8192) := by
  generalize hμ : (∑ j, f j) * (1 / 8192) = μ
  have hs : ∑ j, f j = 8192 * μ := by rw [← hμ]; ring
  have : ∑ k, (f k - μ) * (f k - μ) = ∑ k, f k * f k - 2 * μ * ∑ k, f k + 8192 * (μ * μ) := by
    have : ∀ k, (f k - μ) * (f k - μ) = f k * f k - 2 * μ * f k + μ * μ := fun k => by ring
    simp only [this, Finset.sum_add_distrib, Finset.sum_sub_distrib, ← Finset.mul_sum, Finset.sum_const, Finset.card_univ,
      Fintype.card_fin, nsmul_eq_mul]
    ring
  rw [this, hs]; ring

/-- The normalised element: the kernel's product with the reciprocal root of "mean of squares less squared mean", and the
    reference's quotient by the root of the mean squared deviation, of one row of finite numbers. -/
theorem norm_eq (x : Fin 8192 → EReal) (hx : ∀ k, x k ≠ ⊤ ∧ x k ≠ ⊥) (n e : EReal) (hn : n = ((8192 : ℝ) : EReal))
    (he : ∃ r : ℝ, 0 < r ∧ e = (r : EReal)) (a : EReal) (ha : a ≠ ⊤ ∧ a ≠ ⊥) :
    (a - Ideal.div (∑ k, x k) n) * Ideal.rsqrt (Ideal.div (∑ k, x k * x k) n - Ideal.div (∑ k, x k) n * Ideal.div (∑ k, x k) n + e)
      = Ideal.div (a - Ideal.div (∑ k, x k) n)
          (Ideal.sqrt (Ideal.div (∑ k, (x k - Ideal.div (∑ k, x k) n) * (x k - Ideal.div (∑ k, x k) n)) n + e)) := by
  obtain ⟨r, hr, rfl⟩ := he
  subst hn
  choose f hf using fun k => (⟨(x k).toReal, (EReal.coe_toReal (hx k).1 (hx k).2).symm⟩ : ∃ f : ℝ, x k = (f : EReal))
  obtain ⟨b, rfl⟩ : ∃ b : ℝ, a = (b : EReal) := ⟨a.toReal, (EReal.coe_toReal ha.1 ha.2).symm⟩
  have h0 : (8192 : ℝ) ≠ 0 := by norm_num
  simp only [hf, Ideal.div_coe h0, ← EReal.coe_mul, ← coe_sum, ← EReal.coe_sub, ← EReal.coe_add]
  have hv := real_variance f
  rw [hv]
  set V : ℝ := (∑ k, (f k - (∑ j, f j) * (1 / 8192)) * (f k - (∑ j, f j) * (1 / 8192))) * (1 / 8192) with hV
  have hV0 : 0 ≤ V := by
    rw [hV]; exact mul_nonneg (Finset.sum_nonneg fun k _ => mul_self_nonneg _) (by norm_num)
  have hp : 0 < V + r := by linarith
  rw [Ideal.rsqrt_coe, Ideal.sqrt_coe, if_neg (not_lt.2 hp.le), if_neg hp.ne', if_neg (not_lt.2 hp.le),
    Ideal.div_coe (Real.sqrt_pos.2 hp).ne', one_div (Real.sqrt _)]

end Cert.RowNorm

end
-- ==== Proof.Value.Reference.lean ====
/-
# The reference's result, element by element
-/
module

public import proofs.«01_k».proof.Proof.Gen.ReferenceIdeal.Run
public import proofs.«01_k».proof.Proof.Value.Algebra
public import Idealize.ShloMosaic.Lib.Pointwise

@[expose] public section

set_option maxRecDepth 16384

noncomputable section

namespace Cert.ReferenceIdeal.Value

open Cert.ReferenceIdeal Cert.ReferenceIdeal.Gen Idealize.ShloMosaic

/-- The row means, as a column. -/
def rowMean (x : FVec Ideal S2x4096x8192 .f32) : FVec Ideal S2x4096x1 .f32 :=
  Host.divf (broadcastInDim S2x4096x1 ![0, 1] bcast_S2x4096_S2x4096x1_0_1 (Host.reduceAdd x (constant S_ .f32 0x00000000#32) reducesTo_S2x4096x8192_S2x4096_d2 h_S_)) (broadcastInDim S2x4096x1 ![] bcast_S_S2x4096x1 (constant S_ .f32 0x46000000#32))

/-- Deviations from the row mean. -/
def deviation (x : FVec Ideal S2x4096x8192 .f32) : FVec Ideal S2x4096x8192 .f32 :=
  subf x (broadcastInDim S2x4096x8192 ![0, 1, 2] bcast_S2x4096x1_S2x4096x8192_0_1_2 (rowMean x))

/-- The row variances, as a column. -/
def rowVar (x : FVec Ideal S2x4096x8192 .f32) : FVec Ideal S2x4096x1 .f32 :=
  select (broadcastInDim S2x4096x1 ![] bcast_S_S2x4096x1 (cmpf .ogt (subf (constant S_ .f32 0x46000000#32) (sitofp .f32 (constantI S_ 32 0#32)) : FVec Ideal S_ .f32) (constant S_ .f32 0x00000000#32))) (Host.divf (broadcastInDim S2x4096x1 ![0, 1] bcast_S2x4096_S2x4096x1_0_1 (Host.reduceAdd (mulf (deviation x) (deviation x)) (constant S_ .f32 0x00000000#32) reducesTo_S2x4096x8192_S2x4096_d2 h_S_)) (broadcastInDim S2x4096x1 ![] bcast_S_S2x4096x1 (subf (constant S_ .f32 0x46000000#32) (sitofp .f32 (constantI S_ 32 0#32))))) (broadcastInDim S2x4096x1 ![] bcast_S_S2x4096x1 (id (constant S_ .f32 0x7FC00000#32)))

/-- The reference's result as a function of its four arguments. -/
def result (x : FVec Ideal S2x4096x8192 .f32) (t : FVec Ideal S2x128 .f32) (a b : FVec Ideal S128x8192 .f32) : FVec Ideal S2x4096x8192 .bf16 :=
  truncf .bf16 (addf (mulf (Host.divf (deviation x) (broadcastInDim S2x4096x8192 ![0, 1, 2] bcast_S2x4096x1_S2x4096x8192_0_1_2 (Host.sqrt (addf (rowVar x) (broadcastInDim S2x4096x1 ![] bcast_S_S2x4096x1 (constant S_ .f32 0x3727C5AC#32)))))) (broadcastInDim S2x4096x8192 ![0, 1, 2] bcast_S2x1x8192_S2x4096x8192_0_1_2 (addf (broadcastInDim S2x1x8192 ![] bcast_S_S2x1x8192 (constant S_ .f32 0x3F800000#32)) (broadcastInDim S2x1x8192 ![0, 2] bcast_S2x8192_S2x1x8192_0_2 (Host.dotGeneral dot_S2x128_S128x8192_S2x8192_1_0_0_1_n_n none t a))))) (broadcastInDim S2x4096x8192 ![0, 1, 2] bcast_S2x1x8192_S2x4096x8192_0_1_2 (broadcastInDim S2x1x8192 ![0, 2] bcast_S2x8192_S2x1x8192_0_2 (Host.dotGeneral dot_S2x128_S128x8192_S2x8192_1_0_0_1_n_n none t b)))) bitsLt_bf16_f32

/-- The mean of row `(b, s)` is its sum over the number of channels. -/
theorem rowMean_elt (x : FVec Ideal S2x4096x8192 .f32) (b : Fin 2) (s : Fin 4096) :
    rowMean x (ix3 b s 0) = Ideal.div (∑ k : Fin 8192, x (ix3 b s k)) (Ideal.ofBits .f32 0x46000000#32) := by
  pointwise [rowMean]

/-- An element's deviation is the element minus the mean of its row. -/
theorem deviation_elt (x : FVec Ideal S2x4096x8192 .f32) (b : Fin 2) (s : Fin 4096) (k : Fin 8192) :
    deviation x (ix3 b s k) = x (ix3 b s k) - rowMean x (ix3 b s 0) := by
  pointwise [deviation]

/-- The variance of row `(b, s)` is the sum of squared deviations over the number of channels. -/
theorem rowVar_elt (x : FVec Ideal S2x4096x8192 .f32) (b : Fin 2) (s : Fin 4096) :
    rowVar x (ix3 b s 0) = Ideal.div (∑ k : Fin 8192, deviation x (ix3 b s k) * deviation x (ix3 b s k)) (Ideal.ofBits .f32 0x46000000#32) := by
  pointwise [rowVar]
  have hz : FloatOps.sitofp (F := Ideal) .f32 0#32 = (0 : EReal) := by
    show (((0#32 : BitVec 32).toInt : ℝ) : EReal) = 0
    simp
  rw [hz, sub_zero, if_pos]
  rw [RowNorm.word_len]
  exact_mod_cast (by norm_num : (0 : ℝ) < 8192)

/-- The result at `(b, s, l)`: deviation over the root of variance plus epsilon, times one plus the scale, plus the shift. -/
theorem result_elt (x : FVec Ideal S2x4096x8192 .f32) (t : FVec Ideal S2x128 .f32) (u v : FVec Ideal S128x8192 .f32)
    (b : Fin 2) (s : Fin 4096) (l : Fin 8192) :
    result x t u v (ix3 b s l)
      = Ideal.div (deviation x (ix3 b s l)) (Ideal.sqrt (rowVar x (ix3 b s 0) + Ideal.ofBits .f32 0x3727C5AC#32))
          * (1 + ∑ k : Fin 128, t (ix2 b k) * u (ix2 k l)) + ∑ k : Fin 128, t (ix2 b k) * v (ix2 k l) := by
  pointwise [result]

/-- Every run of the reference leaves `result` of its arguments in the result array and its arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.ReferenceIdeal.Value

end
-- ==== Proof.Value.Equation.lean ====
/-
# The kernel's result is the reference's, block by block
-/
module

public import proofs.«01_k».proof.Pre_finite_x_KernelIdeal
public import proofs.«01_k».proof.Proof.Value.Element
public import proofs.«01_k».proof.Proof.Value.Reference
public import Idealize.ShloMosaic.Lib.Layout
public import Idealize.ShloMosaic.Lib.ReduceAll

@[expose] public section

set_option maxRecDepth 16384

noncomputable section

namespace Cert.Equation

open Idealize.ShloMosaic Cert.KernelIdeal.Stats Cert.KernelIdeal.Gen
open Cert.ReferenceIdeal.Value (result deviation rowMean rowVar)
open Cert.KernelIdeal (nD τ sig S2x4096x512 S2x128 S128x512 S128x128 S8192x2)
open Cert.ReferenceIdeal (S2x4096x8192 S128x8192)

/-- An element whose absolute value is below the infinity word is a real. -/
theorem real_of_lt (a : EReal) (h : FloatOps.cmpf (F := Ideal) (φ := .f32) .olt (FloatOps.absf (F := Ideal) (φ := .f32) a) (Ideal.ofBits .f32 0x7F800000#32) = 1#1) :
    a ≠ ⊤ ∧ a ≠ ⊥ := by
  have ht : Ideal.ofBits .f32 0x7F800000#32 = ⊤ := by simp [Ideal.ofBits, Ideal.ieee]
  rw [ht, Ideal.cmpf_def, Ideal.absf_def] at h
  constructor
  · rintro rfl; simp [Ideal.cmp] at h
  · rintro rfl; simp [Ideal.cmp] at h

/-- Under the precondition every element of a device's `x` is a real. -/
theorem finite_of_pre [Cert.Pre_finite_x_KernelIdeal.Facts] (x : FVec Ideal S2x4096x512 .f32) (t : FVec Ideal S2x128 .f32)
    (a b : FVec Ideal S128x512 .f32) (h : Cert.Pre_finite_x_KernelIdeal.fn (F := Ideal) x t a b = fun _ => 1#1) (i : S2x4096x512.Idx) :
    x i ≠ ⊤ ∧ x i ≠ ⊥ := by
  have h1 := congrFun h ix0
  have h2 := Host.reduce_andi_all _ _ _ _ _ h1 i
  exact real_of_lt (x i) h2

/-- Channel `l` of device `c` in the whole array. -/
def chan (c : Dev nD) (l : Fin 512) : Fin 8192 := ⟨c.val * 512 + l.val, by have : c.val < 16 := c.isLt; omega⟩

/-- A sum over all channels, by device. -/
theorem sum_chan (f : Fin 8192 → EReal) : ∑ c : Dev nD, ∑ l : Fin 512, f (chan c l) = ∑ k, f k := by
  rw [← Fintype.sum_prod_type' (f := fun c l => f (chan c l))]
  refine Function.Bijective.sum_comp (e := fun p : Dev nD × Fin 512 => chan p.1 p.2) ⟨?_, ?_⟩ f
  · rintro ⟨c, l⟩ ⟨c', l'⟩ h
    have h' : c.val * 512 + l.val = c'.val * 512 + l'.val := congrArg Fin.val h
    have : c.val = c'.val := by omega
    have : l.val = l'.val := by omega
    exact Prod.ext (Fin.ext ‹_›) (Fin.ext ‹_›)
  · intro k
    refine ⟨(⟨k.val / 512, by show k.val / 512 < 16; omega⟩, ⟨k.val % 512, by omega⟩), Fin.ext ?_⟩
    show k.val / 512 * 512 + k.val % 512 = k.val
    omega

/-- A device's block of `x`, read at an index of its own, is the whole array at that device's channel. -/
theorem block_x (X : S2x4096x8192.Idx → EReal) (c : Dev nD) (b : Fin 2) (s : Fin 4096) (l : Fin 512) :
    Layout.block ⟨3, ![2, 4096, 512]⟩ ⟨3, ![2, 4096, 8192]⟩ 2 16 c X (by decide) (ix3 b s l) = X (ix3 b s (chan c l)) := by
  rw [Layout.block_apply]
  congr 1
  funext a
  apply Fin.ext
  match a with
  | ⟨0, _⟩ => rfl
  | ⟨1, _⟩ => rfl
  | ⟨2, _⟩ => rfl

/-- A device's block of a weight matrix, likewise. -/
theorem block_w (W : S128x8192.Idx → EReal) (c : Dev nD) (k : Fin 128) (l : Fin 512) :
    Layout.block ⟨2, ![128, 512]⟩ ⟨2, ![128, 8192]⟩ 1 16 c W (by decide) (ix2 k l) = W (ix2 k (chan c l)) := by
  rw [Layout.block_apply]
  congr 1
  funext a
  apply Fin.ext
  match a with
  | ⟨0, _⟩ => rfl
  | ⟨1, _⟩ => rfl

variable (m : (ℓ : Loc nD τ sig) → Buf (Elt Ideal) ℓ)

/-- The block of `x` on device `c`, as an array of extended reals. -/
abbrev xs (c : Dev nD) : FVec Ideal S2x4096x512 .f32 := xin m c
/-- `t_emb` of device `c`. -/
abbrev ts (c : Dev nD) : FVec Ideal S2x128 .f32 := tin m c
/-- `W_scale`'s block on device `c`. -/
abbrev wa (c : Dev nD) : FVec Ideal S128x512 .f32 := ain m c
/-- `W_shift`'s block on device `c`. -/
abbrev wb (c : Dev nD) : FVec Ideal S128x512 .f32 := bin m c

/-- The element of device `c`'s result at `(b, s, l)`: the sums in it are those of row `(b, s)` over all devices' channels. -/
theorem kernel_elt (c : Dev nD) (b : Fin 2) (s : Fin 4096) (l : Fin 512) :
    (outAt (F := Ideal) m c : FVec Ideal S2x4096x512 .bf16) (ix3 b s l)
      = element (xs m c (ix3 b s l))
          (∑ d : Dev nD, ∑ k : Fin 512, xs m d (ix3 b s k))
          (∑ d : Dev nD, ∑ k : Fin 512, xs m d (ix3 b s k) * xs m d (ix3 b s k))
          (∑ k : Fin 128, ts m c (ix2 b k) * wa m c (ix2 k l))
          (∑ k : Fin 128, ts m c (ix2 b k) * wb m c (ix2 k l)) := by
  have hsum : ∀ (t : Fin 8192), t.val = 4096 * b.val + s.val →
      k0_pay8 (F := Ideal) (sum2 m c) (ix2 t 0) = ∑ d : Dev nD, ∑ k : Fin 512, xs m d (ix3 b s k)
      ∧ k0_pay8 (F := Ideal) (sum2 m c) (ix2 t 1)
        = ∑ d : Dev nD, ∑ k : Fin 512, xs m d (ix3 b s k) * xs m d (ix3 b s k) := by
    intro t ht
    have hb : (⟨t.val / 4096, by omega⟩ : Fin 2) = b := Fin.ext (by show t.val / 4096 = b.val; omega)
    have hs : (⟨t.val % 4096, by omega⟩ : Fin 4096) = s := Fin.ext (by show t.val % 4096 = s.val; omega)
    rw [all_sum, all_sum]
    constructor
    · refine Finset.sum_congr rfl fun d _ => ?_
      rw [show sum0 (F := Ideal) m d = k0_pay3 (F := Ideal) (k0_pay2 (F := Ideal) (xs m d)) from rfl, col_sum, hb, hs]
    · refine Finset.sum_congr rfl fun d _ => ?_
      rw [show sum0 (F := Ideal) m d = k0_pay3 (F := Ideal) (k0_pay2 (F := Ideal) (xs m d)) from rfl, col_sq, hb, hs]
  have h01 : b = 0 ∨ b = 1 := by omega
  rcases h01 with rfl | rfl
  · obtain ⟨h1, h2⟩ := hsum ⟨s.val, by omega⟩ (by show s.val = 4096 * 0 + s.val; omega)
    show out0 m c (ix3 0 s l) = _
    rw [out0, half0, h1, h2, load0, scaleV, shiftV, scale_elt, shift_elt]
  · obtain ⟨h1, h2⟩ := hsum ⟨4096 + s.val, by omega⟩ (by show 4096 + s.val = 4096 * 1 + s.val; omega)
    show out1 m c (ix3 0 s l) = _
    rw [out1, half1, h1, h2, load1, scaleV, shiftV, scale_elt, shift_elt]

/-- Device `c`'s result is block `c` of the reference's. -/
theorem out_eq_block  (X : FVec Ideal S2x4096x8192 .f32) (T : FVec Ideal S2x128 .f32) (A B : FVec Ideal S128x8192 .f32)
    (hx : ∀ c, xs m c = Layout.block ⟨3, ![2, 4096, 512]⟩ ⟨3, ![2, 4096, 8192]⟩ 2 16 c X)
    (ht : ∀ c, ts m c = T)
    (ha : ∀ c, wa m c = Layout.block ⟨2, ![128, 512]⟩ ⟨2, ![128, 8192]⟩ 1 16 c A)
    (hb : ∀ c, wb m c = Layout.block ⟨2, ![128, 512]⟩ ⟨2, ![128, 8192]⟩ 1 16 c B)
    (hfin : ∀ c (i : S2x4096x512.Idx), xs m c i ≠ ⊤ ∧ xs m c i ≠ ⊥) (c : Dev nD) :
    outAt (F := Ideal) m c = Layout.block ⟨3, ![2, 4096, 512]⟩ ⟨3, ![2, 4096, 8192]⟩ 2 16 c (result X T A B) := by
  funext i
  obtain ⟨b, s, l, rfl⟩ : ∃ (b : Fin 2) (s : Fin 4096) (l : Fin 512), i = ix3 b s l := ⟨i 0, i 1, i 2, eq_ix3 i⟩
  have hX : ∀ k, X (ix3 b s k) ≠ ⊤ ∧ X (ix3 b s k) ≠ ⊥ := by
    intro k
    have h := hfin (⟨k.val / 512, by show k.val / 512 < 16; omega⟩) (ix3 b s (⟨k.val % 512, by omega⟩ : Fin 512))
    rw [hx, block_x] at h
    have hk : chan (⟨k.val / 512, by show k.val / 512 < 16; omega⟩) (⟨k.val % 512, by omega⟩ : Fin 512) = k :=
      Fin.ext (by show k.val / 512 * 512 + k.val % 512 = k.val; omega)
    rwa [hk] at h
  rw [kernel_elt, block_x, Cert.ReferenceIdeal.Value.result_elt, Cert.ReferenceIdeal.Value.rowVar_elt]
  simp only [hx, ht, ha, hb, block_x, block_w, Cert.ReferenceIdeal.Value.deviation_elt, Cert.ReferenceIdeal.Value.rowMean_elt]
  rw [sum_chan (fun k => X (ix3 b s k)), sum_chan (fun k => X (ix3 b s k) * X (ix3 b s k)), element,
    Cert.RowNorm.norm_eq (fun k => X (ix3 b s k)) hX _ _ Cert.RowNorm.word_len Cert.RowNorm.word_eps _ (hX (chan c l))]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The shapes that the precondition's operations take fit, on one device's block. -/
theorem preFacts : Cert.Pre_finite_x_KernelIdeal.Facts where
  bcast_S_S2x4096x512 := by decide
  reducesTo_S2x4096x512_S_d0_1_2 := by decide
  h_S_ := by decide

/-- The shapes that the precondition's operations take fit, on the whole array. -/
theorem preFactsWhole : Cert.Pre_finite_x_ReferenceIdeal.Facts where
  bcast_S_S2x4096x8192 := by decide
  reducesTo_S2x4096x8192_S_d0_1_2 := by decide
  h_S_ := by decide

attribute [local instance] Cert.Kernel.Gen.facts Cert.KernelIdeal.Gen.facts Cert.ReferenceIdeal.Gen.facts preFacts preFactsWhole

/-- The kernel on machine words terminates with its arguments unchanged and every counter at zero. -/
theorem frame_words : Cert.quiescent_Kernel := fun m g _ =>
  (θ_run _ _ _).mono (fun _ h => ⟨fun c => (h.1 c).2, h.2⟩) (Cert.Kernel.Stats.run_named (F := Bits) m g)

/-- So does the kernel over the extended reals. -/
theorem frame_reals : Cert.quiescent_KernelIdeal := fun m g _ =>
  (θ_run _ _ _).mono (fun _ h => ⟨fun c => (h.1 c).2, h.2⟩) (Cert.KernelIdeal.Stats.run_named (F := Ideal) m g)

/-- So does the reference, which has no semaphore. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- Over the extended reals, with `x` finite, device `c` ends with block `c` of the reference's result. -/
theorem same_function : Cert.algebraic_KernelIdeal_ReferenceIdeal_pre_finite_x_KernelIdeal := by
  intro m g m' g' hpre harg
  refine ⟨_, ?_, (θ_run _ _ _).mono (fun _ h => h 0) (Cert.ReferenceIdeal.Value.run_result m' g')⟩
  refine (θ_run _ _ _).mono (fun r h c => ?_) (Cert.KernelIdeal.Stats.run_named (F := Ideal) m g)
  refine ⟨(h.1 c).1.trans ?_, (h.1 c).2⟩
  exact Cert.Equation.out_eq_block m _ _ _ _
    (fun d => (Cert.KernelIdeal.Stats.xin_eq m d).trans (harg d).1)
    (fun d => (Cert.KernelIdeal.Stats.tin_eq m d).trans (harg d).2.1)
    (fun d => (Cert.KernelIdeal.Stats.ain_eq m d).trans (harg d).2.2.1)
    (fun d => (Cert.KernelIdeal.Stats.bin_eq m d).trans (harg d).2.2.2)
    (fun d i => by
      have hx : Cert.Equation.xs m d = m ((d.tc : Thread _ _).loc Cert.KernelIdeal.main_arg0) := Cert.KernelIdeal.Stats.xin_eq m d
      rw [hx]
      exact Cert.Equation.finite_of_pre _ _ _ _ (hpre d) i) c

theorem claim : Cert.Claim :=
  ⟨Cert.Kernel.Gen.facts, Cert.KernelIdeal.Gen.facts, Cert.ReferenceIdeal.Gen.facts, preFacts, preFactsWhole,
    frame_words, frame_reals, fun m g _ => frame_reals m g trivial, frame_reference, fun m g _ => frame_reference m g trivial,
    trivial, same_function⟩

end Cert.Proof

end
